-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 1024]⟩ ⟨2, ![8192, 2048]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![4096, 2048]⟩ ⟨2, ![8192, 2048]⟩ (Layout.meshBlock [2, 2, 2] ![[2], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨2, ![8192, 1024]⟩ ⟨2, ![8192, 2048]⟩ (Layout.meshBlock [2, 2, 2] ![[], [2]] c) v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4096x2048 : Shape := ⟨2, ![4096, 2048]⟩
abbrev S8192x1024 : Shape := ⟨2, ![8192, 1024]⟩
abbrev S2x512x2048 : Shape := ⟨3, ![2, 512, 2048]⟩
abbrev S4096x1024 : Shape := ⟨2, ![4096, 1024]⟩
abbrev S2 : Shape := ⟨1, ![2]⟩
abbrev S8 : Shape := ⟨1, ![8]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩
abbrev S1x512x1024 : Shape := ⟨3, ![1, 512, 1024]⟩
abbrev S512x1024 : Shape := ⟨2, ![512, 1024]⟩

abbrev nBuf : Space → Nat
  | .hbm => 2
  | .vmem => 3
  | .smem => 0
  | _ => 0

abbrev bufTy : (tb : Table) → Fin (tcTables nBuf tb) → BufTy
  | .hbm, ⟨0, _⟩ => ⟨S4096x2048, .f32⟩
  | .hbm, ⟨1, _⟩ => ⟨S8192x1024, .bf16⟩
  | .local _ .vmem, ⟨0, _⟩ => ⟨S2x512x2048, .f32⟩
  | .local _ .vmem, ⟨1, _⟩ => ⟨S4096x1024, .bf16⟩
  | .local _ .vmem, ⟨2, _⟩ => ⟨S4096x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩

abbrev nD : Nat := 8
abbrev τ : Topo := Topo.v7x

variable {F : FTy → Type} [FloatOps F]

abbrev grid0 : Pipeline.Grid := .none

def k0_cond1 (d0 : Dev nD) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let v9 : BitVec 1 := Scalar.cmpi .eq v8 c0_i32
  let v10 : BitVec 32 := Scalar.extui v9
  let c0_i32_3 : BitVec 32 := 0#32
  let v11 : BitVec 1 := Scalar.cmpi .ne v10 c0_i32_3
  v11

def k0_dev1 (d0 : Dev nD) : Nat :=
  let c0_i32_30 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_29 : BitVec 32 := 4#32
  let v36 : BitVec 32 := Scalar.muli v2 c4_i32_29
  let v37 : BitVec 32 := Scalar.addi c0_i32_30 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v38 : BitVec 32 := Scalar.muli v5 c2_i32_31
  let v39 : BitVec 32 := Scalar.addi v37 v38
  let c1_i32_28 : BitVec 32 := 1#32
  let c1_i32_32 : BitVec 32 := 1#32
  let v40 : BitVec 32 := Scalar.muli c1_i32_28 c1_i32_32
  let v41 : BitVec 32 := Scalar.addi v39 v40
  v41.toNat
def k0_dev2 (d0 : Dev nD) : Nat :=
  let c0_i32_65 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_64 : BitVec 32 := 4#32
  let v74 : BitVec 32 := Scalar.muli v2 c4_i32_64
  let v75 : BitVec 32 := Scalar.addi c0_i32_65 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_66 : BitVec 32 := 2#32
  let v76 : BitVec 32 := Scalar.muli v5 c2_i32_66
  let v77 : BitVec 32 := Scalar.addi v75 v76
  let c1_i32_63 : BitVec 32 := 1#32
  let c1_i32_67 : BitVec 32 := 1#32
  let v78 : BitVec 32 := Scalar.muli c1_i32_63 c1_i32_67
  let v79 : BitVec 32 := Scalar.addi v77 v78
  v79.toNat
def k0_dev3 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v112 : BitVec 32 := Scalar.muli v2 c4_i32_101
  let v113 : BitVec 32 := Scalar.addi c0_i32_102 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v114 : BitVec 32 := Scalar.muli v5 c2_i32_103
  let v115 : BitVec 32 := Scalar.addi v113 v114
  let c1_i32_100 : BitVec 32 := 1#32
  let c1_i32_104 : BitVec 32 := 1#32
  let v116 : BitVec 32 := Scalar.muli c1_i32_100 c1_i32_104
  let v117 : BitVec 32 := Scalar.addi v115 v116
  v117.toNat
def k0_dev4 (d0 : Dev nD) : Nat :=
  let c0_i32_137 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_136 : BitVec 32 := 4#32
  let v150 : BitVec 32 := Scalar.muli v2 c4_i32_136
  let v151 : BitVec 32 := Scalar.addi c0_i32_137 v150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_138 : BitVec 32 := 2#32
  let v152 : BitVec 32 := Scalar.muli v5 c2_i32_138
  let v153 : BitVec 32 := Scalar.addi v151 v152
  let c1_i32_135 : BitVec 32 := 1#32
  let c1_i32_139 : BitVec 32 := 1#32
  let v154 : BitVec 32 := Scalar.muli c1_i32_135 c1_i32_139
  let v155 : BitVec 32 := Scalar.addi v153 v154
  v155.toNat
def k0_dev5 (d0 : Dev nD) : Nat :=
  let c0_i32_173 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_172 : BitVec 32 := 4#32
  let v188 : BitVec 32 := Scalar.muli v2 c4_i32_172
  let v189 : BitVec 32 := Scalar.addi c0_i32_173 v188
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_174 : BitVec 32 := 2#32
  let v190 : BitVec 32 := Scalar.muli v5 c2_i32_174
  let v191 : BitVec 32 := Scalar.addi v189 v190
  let c1_i32_171 : BitVec 32 := 1#32
  let c1_i32_175 : BitVec 32 := 1#32
  let v192 : BitVec 32 := Scalar.muli c1_i32_171 c1_i32_175
  let v193 : BitVec 32 := Scalar.addi v191 v192
  v193.toNat
def k0_dev6 (d0 : Dev nD) : Nat :=
  let c0_i32_208 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_207 : BitVec 32 := 4#32
  let v226 : BitVec 32 := Scalar.muli v2 c4_i32_207
  let v227 : BitVec 32 := Scalar.addi c0_i32_208 v226
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_209 : BitVec 32 := 2#32
  let v228 : BitVec 32 := Scalar.muli v5 c2_i32_209
  let v229 : BitVec 32 := Scalar.addi v227 v228
  let c1_i32_206 : BitVec 32 := 1#32
  let c1_i32_210 : BitVec 32 := 1#32
  let v230 : BitVec 32 := Scalar.muli c1_i32_206 c1_i32_210
  let v231 : BitVec 32 := Scalar.addi v229 v230
  v231.toNat
def k0_dev7 (d0 : Dev nD) : Nat :=
  let c0_i32_243 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_242 : BitVec 32 := 4#32
  let v264 : BitVec 32 := Scalar.muli v2 c4_i32_242
  let v265 : BitVec 32 := Scalar.addi c0_i32_243 v264
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_244 : BitVec 32 := 2#32
  let v266 : BitVec 32 := Scalar.muli v5 c2_i32_244
  let v267 : BitVec 32 := Scalar.addi v265 v266
  let c1_i32_241 : BitVec 32 := 1#32
  let c1_i32_245 : BitVec 32 := 1#32
  let v268 : BitVec 32 := Scalar.muli c1_i32_241 c1_i32_245
  let v269 : BitVec 32 := Scalar.addi v267 v268
  v269.toNat
def k0_dev8 (d0 : Dev nD) : Nat :=
  let c0_i32_273 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_272 : BitVec 32 := 4#32
  let v297 : BitVec 32 := Scalar.muli v2 c4_i32_272
  let v298 : BitVec 32 := Scalar.addi c0_i32_273 v297
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_274 : BitVec 32 := 2#32
  let v299 : BitVec 32 := Scalar.muli v5 c2_i32_274
  let v300 : BitVec 32 := Scalar.addi v298 v299
  let c1_i32_271 : BitVec 32 := 1#32
  let c1_i32_275 : BitVec 32 := 1#32
  let v301 : BitVec 32 := Scalar.muli c1_i32_271 c1_i32_275
  let v302 : BitVec 32 := Scalar.addi v300 v301
  v302.toNat
def k0_cond2 (d0 : Dev nD) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4 : BitVec 32 := 1#32
  let v12 : BitVec 1 := Scalar.cmpi .eq v8 c1_i32_4
  let v13 : BitVec 32 := Scalar.extui v12
  let c0_i32_5 : BitVec 32 := 0#32
  let v14 : BitVec 1 := Scalar.cmpi .ne v13 c0_i32_5
  v14

def k0_dev9 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v36 : BitVec 32 := Scalar.muli v2 c4_i32_30
  let v37 : BitVec 32 := Scalar.addi c0_i32_31 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v38 : BitVec 32 := Scalar.muli v5 c2_i32_32
  let v39 : BitVec 32 := Scalar.addi v37 v38
  let c0_i32_29 : BitVec 32 := 0#32
  let c1_i32_33 : BitVec 32 := 1#32
  let v40 : BitVec 32 := Scalar.muli c0_i32_29 c1_i32_33
  let v41 : BitVec 32 := Scalar.addi v39 v40
  v41.toNat
def k0_dev10 (d0 : Dev nD) : Nat :=
  let c0_i32_64 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_63 : BitVec 32 := 4#32
  let v74 : BitVec 32 := Scalar.muli v2 c4_i32_63
  let v75 : BitVec 32 := Scalar.addi c0_i32_64 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_65 : BitVec 32 := 2#32
  let v76 : BitVec 32 := Scalar.muli v5 c2_i32_65
  let v77 : BitVec 32 := Scalar.addi v75 v76
  let c0_i32_62 : BitVec 32 := 0#32
  let c1_i32_66 : BitVec 32 := 1#32
  let v78 : BitVec 32 := Scalar.muli c0_i32_62 c1_i32_66
  let v79 : BitVec 32 := Scalar.addi v77 v78
  v79.toNat
def k0_dev11 (d0 : Dev nD) : Nat :=
  let c0_i32_100 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_99 : BitVec 32 := 4#32
  let v112 : BitVec 32 := Scalar.muli v2 c4_i32_99
  let v113 : BitVec 32 := Scalar.addi c0_i32_100 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v114 : BitVec 32 := Scalar.muli v5 c2_i32_101
  let v115 : BitVec 32 := Scalar.addi v113 v114
  let c0_i32_98 : BitVec 32 := 0#32
  let c1_i32_102 : BitVec 32 := 1#32
  let v116 : BitVec 32 := Scalar.muli c0_i32_98 c1_i32_102
  let v117 : BitVec 32 := Scalar.addi v115 v116
  v117.toNat
def k0_dev12 (d0 : Dev nD) : Nat :=
  let c0_i32_134 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_133 : BitVec 32 := 4#32
  let v150 : BitVec 32 := Scalar.muli v2 c4_i32_133
  let v151 : BitVec 32 := Scalar.addi c0_i32_134 v150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_135 : BitVec 32 := 2#32
  let v152 : BitVec 32 := Scalar.muli v5 c2_i32_135
  let v153 : BitVec 32 := Scalar.addi v151 v152
  let c0_i32_132 : BitVec 32 := 0#32
  let c1_i32_136 : BitVec 32 := 1#32
  let v154 : BitVec 32 := Scalar.muli c0_i32_132 c1_i32_136
  let v155 : BitVec 32 := Scalar.addi v153 v154
  v155.toNat
def k0_dev13 (d0 : Dev nD) : Nat :=
  let c0_i32_169 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_168 : BitVec 32 := 4#32
  let v188 : BitVec 32 := Scalar.muli v2 c4_i32_168
  let v189 : BitVec 32 := Scalar.addi c0_i32_169 v188
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_170 : BitVec 32 := 2#32
  let v190 : BitVec 32 := Scalar.muli v5 c2_i32_170
  let v191 : BitVec 32 := Scalar.addi v189 v190
  let c0_i32_167 : BitVec 32 := 0#32
  let c1_i32_171 : BitVec 32 := 1#32
  let v192 : BitVec 32 := Scalar.muli c0_i32_167 c1_i32_171
  let v193 : BitVec 32 := Scalar.addi v191 v192
  v193.toNat
def k0_dev14 (d0 : Dev nD) : Nat :=
  let c0_i32_203 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_202 : BitVec 32 := 4#32
  let v226 : BitVec 32 := Scalar.muli v2 c4_i32_202
  let v227 : BitVec 32 := Scalar.addi c0_i32_203 v226
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_204 : BitVec 32 := 2#32
  let v228 : BitVec 32 := Scalar.muli v5 c2_i32_204
  let v229 : BitVec 32 := Scalar.addi v227 v228
  let c0_i32_201 : BitVec 32 := 0#32
  let c1_i32_205 : BitVec 32 := 1#32
  let v230 : BitVec 32 := Scalar.muli c0_i32_201 c1_i32_205
  let v231 : BitVec 32 := Scalar.addi v229 v230
  v231.toNat
def k0_dev15 (d0 : Dev nD) : Nat :=
  let c0_i32_237 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_236 : BitVec 32 := 4#32
  let v264 : BitVec 32 := Scalar.muli v2 c4_i32_236
  let v265 : BitVec 32 := Scalar.addi c0_i32_237 v264
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_238 : BitVec 32 := 2#32
  let v266 : BitVec 32 := Scalar.muli v5 c2_i32_238
  let v267 : BitVec 32 := Scalar.addi v265 v266
  let c0_i32_235 : BitVec 32 := 0#32
  let c1_i32_239 : BitVec 32 := 1#32
  let v268 : BitVec 32 := Scalar.muli c0_i32_235 c1_i32_239
  let v269 : BitVec 32 := Scalar.addi v267 v268
  v269.toNat
def k0_dev16 (d0 : Dev nD) : Nat :=
  let c0_i32_266 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_265 : BitVec 32 := 4#32
  let v297 : BitVec 32 := Scalar.muli v2 c4_i32_265
  let v298 : BitVec 32 := Scalar.addi c0_i32_266 v297
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_267 : BitVec 32 := 2#32
  let v299 : BitVec 32 := Scalar.muli v5 c2_i32_267
  let v300 : BitVec 32 := Scalar.addi v298 v299
  let c0_i32_264 : BitVec 32 := 0#32
  let c1_i32_268 : BitVec 32 := 1#32
  let v301 : BitVec 32 := Scalar.muli c0_i32_264 c1_i32_268
  let v302 : BitVec 32 := Scalar.addi v300 v301
  v302.toNat
-- ==== Reference.lean ====
abbrev S8192x2048 : Shape := ⟨2, ![8192, 2048]⟩

abbrev nBuf : Space → Nat
  | .hbm => 2
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Common.lean ====
/-
  The all-to-all's vocabulary: each device's partner, the memrefs and their chunks, the DMA cells, what lands where,
  the schedule of the send and receive cells, and what each device owes.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.AllToAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost algebra: the pipeline library's copy, the exchange's own, the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb UB (MT nD τ sig Unit (Elt F) ℕ UU ℕ) := (Emb.inl : Emb UB (UB × Counters)).trans embR
instance ER_landsIn : (ER : Emb UB 𝕄).LandsIn (upEmb : UEmb _ 𝕄) := by unfold ER; infer_instance
/-- The local transfers' counters. -/
abbrev EC : UEmb Counters (MT nD τ sig Unit (Elt F) ℕ UU ℕ) := countersEmb

variable (m : (ℓ : Loc nD τ sig) → Buf (Elt F) ℓ)

/-! ## Partners -/

/-- The device across the mesh axis z: the logical id with its last bit flipped. -/
def peer (c : Dev nD) : Dev nD := ⟨c.val + 1 - 2 * (c.val % 2), by have h : c.val < 8 := c.isLt; show _ < 8; omega⟩

theorem peer_peer (c : Dev nD) : peer (peer c) = c := by revert c; decide
theorem peer_mod (c : Dev nD) : (peer c).val % 2 = 1 - c.val % 2 := by revert c; decide

/-- A device's coordinate on the mesh axis z. -/
abbrev zc (c : Dev nD) : ℕ := c.val % 2

def swap : Dev nD ≃ Dev nD := ⟨peer, peer, peer_peer, peer_peer⟩

/-! ## Memrefs and their chunks -/

abbrev xM : Memref sig .tc .hbm S4096x2048 .f32 := Memref.whole main_arg0
abbrev oM : Memref sig .tc .hbm S8192x1024 .bf16 := Memref.whole main_v1
abbrev xV : Memref sig .tc .vmem S2x512x2048 .f32 := Memref.whole cc0_scratch0
abbrev sV : Memref sig .tc .vmem S4096x1024 .bf16 := Memref.whole cc0_scratch1
abbrev lV : Memref sig .tc .vmem S4096x1024 .bf16 := Memref.whole cc0_scratch2

/-- Rows `[r, r + 512)` of the result array. -/
abbrev oRect (r : ℕ) (h : ∀ a, (![r, 0] : Fin 2 → ℕ) a + S512x1024.size a ≤ S8192x1024.size a) : Rect S8192x1024 :=
  Rect.unit (s := S8192x1024) ![r, 0] S512x1024.size h
/-- Rows `[r, r + 512)` of a half-width staging buffer. -/
abbrev bRect (r : ℕ) (h : ∀ a, (![r, 0] : Fin 2 → ℕ) a + S512x1024.size a ≤ S4096x1024.size a) : Rect S4096x1024 :=
  Rect.unit (s := S4096x1024) ![r, 0] S512x1024.size h

theorem o_inb (r : ℕ) (hr : r ≤ 7680) : ∀ a, (![r, 0] : Fin 2 → ℕ) a + S512x1024.size a ≤ S8192x1024.size a := fun a => by
  fin_cases a
  · show r + 512 ≤ 8192; omega
  · show 0 + 1024 ≤ 1024; omega
theorem b_inb (r : ℕ) (hr : r ≤ 3584) : ∀ a, (![r, 0] : Fin 2 → ℕ) a + S512x1024.size a ≤ S4096x1024.size a := fun a => by
  fin_cases a
  · show r + 512 ≤ 4096; omega
  · show 0 + 1024 ≤ 1024; omega

theorem x_inb (r : ℕ) (hr : r ≤ 3584) : ∀ a, (![r, 0] : Fin 2 → ℕ) a + S512x2048.size a ≤ S4096x2048.size a := fun a => by
  fin_cases a
  · show r + 512 ≤ 4096; omega
  · show 0 + 2048 ≤ 2048; omega
theorem v_inb (j : Fin 2) : ∀ a, (![j.val, 0, 0] : Fin 3 → ℕ) a + S1x512x2048.size a ≤ S2x512x2048.size a := fun a => by
  fin_cases a
  · show j.val + 1 ≤ 2; omega
  · show 0 + 512 ≤ 512; omega
  · show 0 + 2048 ≤ 2048; omega

/-- The row of the result array at which chunk `k` of row block `z` starts. -/
abbrev oRow (z : ℕ) (k : Fin 8) : ℕ := z % 2 * 4096 + 512 * k.val
theorem oRow_le (z : ℕ) (k : Fin 8) : oRow z k ≤ 7680 := by have := k.isLt; have := Nat.mod_lt z (show 2 > 0 by decide); unfold oRow; omega
theorem bRow_le (k : Fin 8) : 512 * k.val ≤ 3584 := by have := k.isLt; omega

/-- Chunk `k` of row block `z % 2` of the result array. -/
abbrev oChunk (z : ℕ) (k : Fin 8) : Memref sig .tc .hbm S512x1024 .bf16 := oM.slice (oRect (oRow z k) (o_inb _ (oRow_le z k))) (fun _ => rfl)
/-- Chunk `k` of the send buffer. -/
abbrev sChunk (k : Fin 8) : Memref sig .tc .vmem S512x1024 .bf16 := sV.slice (bRect (512 * k.val) (b_inb _ (bRow_le k))) (fun _ => rfl)

/-! ## Cells -/

/-- The send semaphore of chunk `k`, and the receive semaphore. -/
abbrev sendS (k : Fin 8) : DmaSem sig := (⟨10 + k.val, by have := k.isLt; show _ < 26; omega⟩ : Fin 26)
abbrev recvS (k : Fin 8) : DmaSem sig := (⟨18 + k.val, by have := k.isLt; show _ < 26; omega⟩ : Fin 26)
abbrev sendCell (c : Dev nD) (k : Fin 8) : GSem nD τ sig := ((c : Thread nD τ), .dma (sendS k))
abbrev recvCell (c : Dev nD) (k : Fin 8) : GSem nD τ sig := ((c : Thread nD τ), .dma (recvS k))

/-- A chunk's credit. -/
abbrev N : ℕ := (oChunk 0 0).view.dmaCredit

theorem N_pos : 0 < N := View.dmaCredit_pos _ (by decide)

theorem send_ne_recv (k k' : Fin 8) : (SemLoc.dma (sendS k) : SemLoc sig) ≠ .dma (recvS k') := by revert k k'; decide
theorem sendS_inj {k k' : Fin 8} (h : (SemLoc.dma (sendS k) : SemLoc sig) = .dma (sendS k')) : k = k' := by revert k k'; decide
theorem recvS_inj {k k' : Fin 8} (h : (SemLoc.dma (recvS k) : SemLoc sig) = .dma (recvS k')) : k = k' := by revert k k'; decide

/-! ## Contents -/

/-- The element in row `r` and column `q` of a device's argument block. -/
def xIdx (r q : ℕ) (hr : r < 4096) (hq : q < 2048) : S4096x2048.Idx := fun a => ⟨(![r, q] : Fin 2 → ℕ) a, by fin_cases a <;> assumption⟩

/-- Device `c`'s result: row `i` comes from the device of its pair whose row block holds it, columns `[1024 z, 1024 z + 1024)` of that
    device's argument, rounded to bf16. -/
def outv (c : Dev nD) : Buf (Elt F) ((c : Thread nD τ).loc main_v1) := fun i =>
  FloatOps.truncf (F := F) (φ := .f32) .bf16 (by decide)
    (m (((if (i 0).val / 4096 = c.val % 2 then c else peer c : Dev nD) : Thread nD τ).loc main_arg0)
      (xIdx ((i 0).val % 4096) (c.val % 2 * 1024 + (i 1).val) (Nat.mod_lt _ (by decide)) (by
        have h1 : (i 1).val < 1024 := (i 1).isLt
        have h2 := Nat.mod_lt c.val (show 2 > 0 by decide)
        omega)))

/-! ## The schedule -/

/-- What a receive cell hands its device: its chunk of the partner's row block of the result, as it should be. -/
def recvPay (c : Dev nD) (k : Fin 8) : sProp 𝕄 :=
  ((oChunk (zc (peer c)) k).view.loc (c : Thread nD τ) ↦[(oChunk (zc (peer c)) k).view.set]{fullShare} outv m c)
/-- What a send cell hands back: the chunk of the send buffer. -/
def sendPay (c : Dev nD) (k : Fin 8) : sProp 𝕄 :=
  iprop(∃ f : Buf (Elt F) ((sChunk k).view.loc (c : Thread nD τ)), (sChunk k).view.loc (c : Thread nD τ) ↦[(sChunk k).view.set]{fullShare} f)

instance recvPay_storable (c : Dev nD) (k : Fin 8) : BI.Storable (upEmb : UEmb _ 𝕄) (recvPay (F := F) m c k) := by unfold recvPay; infer_instance
omit [FloatOps F] in
instance sendPay_storable (c : Dev nD) (k : Fin 8) : BI.Storable (upEmb : UEmb _ 𝕄) (sendPay (F := F) c k) := by unfold sendPay; infer_instance

/-- The chunk a semaphore number belongs to: 10 to 17 are the send semaphores, 18 to 25 the receive semaphores. -/
abbrev chunkOf (s : DmaSem sig) : Fin 8 := ⟨(Fin.val (n := 26) s + 6) % 8, Nat.mod_lt _ (by decide)⟩
abbrev semNo : SemLoc sig → ℕ
  | .dma s => Fin.val (n := 26) s
  | _ => 0
abbrev IsXfer (g : GSem nD τ sig) : Prop := g.1.2 = .tc ∧ 10 ≤ semNo g.2

/-- One round per cell, one duty: the chunk's credit. -/
def xchg : Rounds.Schedule (GSem nD τ sig) Bool 𝕄 where
  duties g r := if r = 0 ∧ IsXfer g then {false} else ∅
  unitless _ := False
  amount _ _ _ := N
  payload g _ _ := match g.2 with
    | .dma s => if Fin.val (n := 26) s < 18 then sendPay g.1.1 (chunkOf s) else recvPay m g.1.1 (chunkOf s)
    | _ => iprop(emp)
  amount_pos _ _ _ _ := N_pos

instance xchg_payload_storable (g : GSem nD τ sig) (r : ℕ) (d : Bool) :
    BI.Storable (upEmb : UEmb _ 𝕄) ((xchg (F := F) m).payload g r d) := by
  dsimp only [xchg]
  split
  · split <;> infer_instance
  · infer_instance

section Sched
variable (c : Dev nD) (k : Fin 8)

theorem chunkOf_send : chunkOf (sendS k) = k := by revert k; decide
theorem chunkOf_recv : chunkOf (recvS k) = k := by revert k; decide
theorem semNo_send : semNo (.dma (sendS k)) = 10 + k.val := rfl
theorem semNo_recv : semNo (.dma (recvS k)) = 18 + k.val := rfl

theorem duties_send : (xchg (F := F) m).duties (sendCell c k) 0 = {false} := if_pos ⟨rfl, rfl, by rw [semNo_send]; omega⟩
theorem duties_recv : (xchg (F := F) m).duties (recvCell c k) 0 = {false} := if_pos ⟨rfl, rfl, by rw [semNo_recv]; omega⟩
theorem duties_later (g : GSem nD τ sig) : ∀ r, 1 ≤ r → (xchg (F := F) m).duties g r = ∅ := fun r hr => if_neg fun h => by omega
theorem amount_eq (g : GSem nD τ sig) (r : ℕ) (d : Bool) : (xchg (F := F) m).amount g r d = N := rfl
theorem expect_send : (xchg (F := F) m).expect (sendCell c k) 0 = N := by
  unfold Schedule.expect Schedule.amountOf; rw [duties_send, Finset.sum_singleton, amount_eq]
theorem expect_recv : (xchg (F := F) m).expect (recvCell c k) 0 = N := by
  unfold Schedule.expect Schedule.amountOf; rw [duties_recv, Finset.sum_singleton, amount_eq]
theorem payload_send (d : Bool) : (xchg (F := F) m).payload (sendCell c k) 0 d = sendPay c k := by
  show (if (10 + k.val) < 18 then sendPay c (chunkOf (sendS k)) else recvPay m c (chunkOf (sendS k))) = _
  rw [if_pos (by omega), chunkOf_send]
theorem payload_recv (d : Bool) : (xchg (F := F) m).payload (recvCell c k) 0 d = recvPay m c k := by
  show (if (18 + k.val) < 18 then sendPay c (chunkOf (recvS k)) else recvPay m c (chunkOf (recvS k))) = _
  rw [if_neg (by omega), chunkOf_recv]
theorem rest_send : bigSep ((xchg (F := F) m).duties (sendCell c k) 0 \ ∅) (fun d => (xchg (F := F) m).payload (sendCell c k) 0 d) = sendPay c k := by
  rw [Finset.sdiff_empty, duties_send, bigSep_singleton, payload_send]
theorem rest_recv : bigSep ((xchg (F := F) m).duties (recvCell c k) 0 \ ∅) (fun d => (xchg (F := F) m).payload (recvCell c k) 0 d) = recvPay m c k := by
  rw [Finset.sdiff_empty, duties_recv, bigSep_singleton, payload_recv]

end Sched

/-! ## What each device owes; the levels -/

/-- Device `c` owes its partner's receive cells of chunks `j` to `7` a chunk each, the earliest chunk the last summand. -/
def owed (c : Dev nD) : ℕ → CellTallies nD τ sig Unit
  | 0 => 0
  | n + 1 => owed c n + tallyAt (recvCell (peer c) (Fin.ofNat 8 (7 - n))) () N

def L (g : GSem nD τ sig) : Finset Unit := if g.1.2 = .tc then {()} else ∅
/-- Receive cells above every other cell. -/
def lv (g : GSem nD τ sig) (_ : Unit) : ℕ := if 18 ≤ semNo g.2 then 1 else 0

theorem L_of_ne (g : GSem nD τ sig) (h : g.1.2 ≠ .tc) : L g = ∅ := if_neg h
theorem L_tc (c : Dev nD) (sm : SemLoc sig) : L ((c : Thread nD τ), sm) = {()} := if_pos rfl

theorem owed_pos {c : Dev nD} {n : ℕ} {g : GSem nD τ sig} {u : Unit} (h : 0 < owed c n g u) : ∃ k, g = recvCell (peer c) k := by
  induction n with
  | zero => exact absurd h (Nat.lt_irrefl 0)
  | succ n ih =>
    unfold owed at h
    rw [Pi.add_apply, Finsupp.add_apply, tallyAt_apply] at h
    by_cases hg : g = recvCell (peer c) (Fin.ofNat 8 (7 - n)) ∧ u = ()
    · exact ⟨_, hg.1⟩
    · rw [if_neg hg, Nat.add_zero] at h; exact ih h

/-- A device waits on any cell below the receive cells whatever it owes. -/
theorem mayWait_low (c : Dev nD) (sm : SemLoc sig) (hs : semNo sm < 18) (n : ℕ) :
    (levAts L lv : sProp 𝕄) ⊢ MayWait (c : Thread nD τ) sm () (owed c n) :=
  MayOwe.of_cut (L := L) (lev := lv) 0 (fun p hp => by rw [Finset.mem_singleton.mp hp, L_tc]; exact Finset.mem_singleton_self _)
    (fun g u hg => by obtain ⟨k, rfl⟩ := owed_pos hg; rw [L_tc]; exact Finset.mem_singleton_self _)
    (fun p hp => by rw [Finset.mem_singleton.mp hp]; dsimp only [lv]; rw [if_neg (by omega)])
    (fun g u hg => by obtain ⟨k, rfl⟩ := owed_pos hg; dsimp only [lv]; rw [if_pos (by rw [semNo_recv]; omega)]; decide)

/-! ## The remaining pieces a device's body holds -/

/-- Chunk `k` of the argument's rows. -/
abbrev xChunk (k : Fin 8) : Memref sig .tc .hbm S512x2048 .f32 :=
  xM.slice (Rect.unit (s := S4096x2048) ![512 * k.val, 0] S512x2048.size (x_inb _ (bRow_le k))) (fun _ => rfl)
/-- Chunk `k` of the buffer the local copies leave from. -/
abbrev lChunk (k : Fin 8) : Memref sig .tc .vmem S512x1024 .bf16 := lV.slice (bRect (512 * k.val) (b_inb _ (bRow_le k))) (fun _ => rfl)
/-- Slot `j` of the two-slot buffer. -/
abbrev xSlot (j : Fin 2) : Memref sig .tc .vmem S512x2048 .f32 :=
  (xV.slice (Rect.unit (s := S2x512x2048) ![j.val, 0, 0] S1x512x2048.size (v_inb j)) (fun _ => rfl)).squeeze S512x2048 squeezes_S1x512x2048_S512x2048

/-- The semaphores of the two slots' fetches and of the local copies. -/
abbrev inS (j : Fin 2) : DmaSem sig := (⟨j.val, by have := j.isLt; show _ < 26; omega⟩ : Fin 26)
abbrev outS (k : Fin 8) : DmaSem sig := (⟨2 + k.val, by have := k.isLt; show _ < 26; omega⟩ : Fin 26)

/-- The view's elements at some contents. -/
abbrev some_pts {sp : Space} {s : Shape} {e : EltTy} (c : Dev nD) (v : Memref sig .tc sp s e) : sProp 𝕄 :=
  iprop(∃ f : Buf (Elt F) (v.view.loc (c : Thread nD τ)), v.view.loc (c : Thread nD τ) ↦[v.view.set]{fullShare} f)

/-- What the exchange's ghost state gives device `c` for chunk `k`. -/
def ghostAt (K : Dev nD × Fin 16 → ℕ) (c : Dev nD) (k : Fin 8) : sProp 𝕄 :=
  iprop((cellInv ER (xchg m) (K (c, Fin.castAdd 8 k)) (sendCell c k) ∗ cellInv ER (xchg m) (K (c, Fin.natAdd 8 k)) (recvCell c k)
      ∗ cellInv ER (xchg m) (K (peer c, Fin.natAdd 8 k)) (recvCell (peer c) k) ∗ reached ER (sendCell c k) 0 ∗ reached ER (recvCell (peer c) k) 0)
    ∗ atPos ER (sendCell c k) 0 ∅ 0 ∗ atPos ER (recvCell c k) 0 ∅ 0
    ∗ dutyTok ER (sendCell c k) 0 false ∗ dutyTok ER (recvCell (peer c) k) 0 false ∗ cred (tallyAt (recvCell c k) () N))

/-- Device `c`'s buffers for chunk `k`: the argument's rows, the chunk of each staging buffer, the chunk of its own row block of its own
    result and of its partner's. -/
def bufsAt (c : Dev nD) (k : Fin 8) : sProp 𝕄 :=
  iprop(((xChunk k).view.loc (c : Thread nD τ) ↦[(xChunk k).view.set]{fullShare} m ((c : Thread nD τ).loc main_arg0))
    ∗ some_pts c (sChunk k) ∗ some_pts c (lChunk k) ∗ some_pts c (oChunk (zc c) k) ∗ some_pts (peer c) (oChunk (zc c) k)
    ∗ semVal ((c : Thread nD τ), .dma (outS k)) 0)

/-- The same after the kernel: the result's own chunk written, the partner's landed, every counter of the chunk at zero. -/
def doneAt (c : Dev nD) (k : Fin 8) : sProp 𝕄 :=
  iprop(((xChunk k).view.loc (c : Thread nD τ) ↦[(xChunk k).view.set]{fullShare} m ((c : Thread nD τ).loc main_arg0))
    ∗ some_pts c (sChunk k) ∗ some_pts c (lChunk k)
    ∗ ((oChunk (zc c) k).view.loc (c : Thread nD τ) ↦[(oChunk (zc c) k).view.set]{fullShare} outv m c) ∗ recvPay m c k
    ∗ semVal ((c : Thread nD τ), .dma (outS k)) 0 ∗ semVal (sendCell c k) 0 ∗ semVal (recvCell c k) 0)

/-- The two slots, and their fetches' counters at zero. -/
def slots (c : Dev nD) : sProp 𝕄 :=
  iprop(some_pts (F := F) c (xSlot 0) ∗ some_pts (F := F) c (xSlot 1) ∗ semVal ((c : Thread nD τ), .dma (inS 0)) 0 ∗ semVal ((c : Thread nD τ), .dma (inS 1)) 0)

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

end Cert.AllToAll

end
-- ==== Proof.Prog.lean ====
/-
  The kernel's body as a sequence of chunk steps, one text for both values of the device's z coordinate.
-/
module

public import proofs.«01_k».proof.Proof.Common

@[expose] public section

set_option maxRecDepth 65536

noncomputable section

namespace Cert.AllToAll

open Cert.KernelIdeal Cert.KernelIdeal.Gen
open Idealize.ShloMosaic Idealize.ShloMosaic.TcCoe Idealize.ShloMosaic.Tactic
open Idealize.SL.Sem

variable {F : FTy → Type} [FloatOps F]

abbrev P₀ (F : FTy → Type) : Type 1 := Prog (TpuEff nD τ sig (Elt F) Λ₀ .tc) PUnit

/-! ## Exactness of the chunks' words -/

theorem two_dvd (n : ℕ) (h : n % 2 = 0) : EltTy.packing .bf16 ∣ n := Nat.dvd_of_mod_eq_zero h

theorem s_words (k : Fin 8) : (sChunk k).view.WordExact :=
  View.wordExact_slice_whole cc0_scratch1 rfl (bRect (512 * k.val) (b_inb _ (bRow_le k))) (show 2 ≤ 2 from le_rfl) rfl
    (two_dvd (512 * k.val) (by omega)) (two_dvd 512 rfl)
theorem l_words (k : Fin 8) : (lChunk k).view.WordExact :=
  View.wordExact_slice_whole cc0_scratch2 rfl (bRect (512 * k.val) (b_inb _ (bRow_le k))) (show 2 ≤ 2 from le_rfl) rfl
    (two_dvd (512 * k.val) (by omega)) (two_dvd 512 rfl)
theorem o_words (z : ℕ) (k : Fin 8) : (oChunk z k).view.WordExact :=
  View.wordExact_slice_whole main_v1 rfl (oRect (oRow z k) (o_inb _ (oRow_le z k))) (show 2 ≤ 2 from le_rfl) rfl
    (two_dvd (oRow z k) (by unfold oRow; omega)) (two_dvd 512 rfl)
theorem s_store (k : Fin 8) : (sV.access (bRect (512 * k.val) (b_inb _ (bRow_le k)))).Stores Finset.univ :=
  View.stores_vmem h_S512x1024 (View.storeExact_slice_whole cc0_scratch1 rfl (bRect (512 * k.val) (b_inb _ (bRow_le k))) (show 2 ≤ 2 from le_rfl) rfl
    (two_dvd (512 * k.val) (by omega)) (two_dvd 512 rfl)) (fun _ => rfl)
theorem l_store (k : Fin 8) : (lV.access (bRect (512 * k.val) (b_inb _ (bRow_le k)))).Stores Finset.univ :=
  View.stores_vmem h_S512x1024 (View.storeExact_slice_whole cc0_scratch2 rfl (bRect (512 * k.val) (b_inb _ (bRow_le k))) (show 2 ≤ 2 from le_rfl) rfl
    (two_dvd (512 * k.val) (by omega)) (two_dvd 512 rfl)) (fun _ => rfl)
theorem x_words (k : Fin 8) : (xChunk k).view.WordExact := View.wordExact_bits rfl
theorem v_words (j : Fin 2) : (xSlot j).view.WordExact := (View.wordExact_bits rfl).reshape _ _

/-! ## The steps -/

theorem h_inb (j : Fin 2) (q : ℕ) (hq : q ≤ 1) : ∀ a, (![j.val, 0, q * 1024] : Fin 3 → ℕ) a + S1x512x1024.size a ≤ S2x512x2048.size a := fun a => by
  fin_cases a
  · show j.val + 1 ≤ 2; omega
  · show 0 + 512 ≤ 512; omega
  · show q * 1024 + 1024 ≤ 2048; omega

/-- Columns `[1024 q, 1024 q + 1024)` of slot `j`. -/
abbrev hRect (j : Fin 2) (q : ℕ) (hq : q ≤ 1) : Rect S2x512x2048 := Rect.unit (s := S2x512x2048) ![j.val, 0, q * 1024] S1x512x1024.size (h_inb j q hq)

/-- The column half that leaves for the partner, and the one that stays. -/
theorem away_le (z : ℕ) : 1 - z % 2 ≤ 1 := Nat.sub_le _ _
theorem home_le (z : ℕ) : z % 2 ≤ 1 := by omega

/-- Fetch chunk `k` of the argument into slot `j`; the wait for it. -/
def fetchC (k : Fin 8) (j : Fin 2) (rest : P₀ F) : P₀ F :=
  .op (.enqueueDma (xChunk k) (.here (xSlot j)) (.dma (inS j)) (x_words k) (v_words j) ⟨Or.inl rfl, trivial⟩) fun _ => rest
def fetchedC (k : Fin 8) (j : Fin 2) (rest : P₀ F) : P₀ F :=
  .op (.waitDma2 (inS j) (xChunk k) (xSlot j) (x_words k) (v_words j)) fun _ => rest

/-- Stage the partner's half of slot `j` in chunk `k` of the send buffer and start its copy to device `n`. -/
def sendC (z : ℕ) (n : Dev nD) (k : Fin 8) (j : Fin 2) (rest : P₀ F) : P₀ F :=
  .op (.load xV (hRect j (1 - z % 2) (away_le z)).toLoadRect (View.loadsAt_vmem h_S1x512x1024)) fun v =>
  .op (.load sV (bRect (512 * k.val) (b_inb _ (bRow_le k))).toLoadRect (View.loadsAt_vmem h_S512x1024)) fun _ =>
  .op (.store sV (bRect (512 * k.val) (b_inb _ (bRow_le k))) (k0_pay1 v) Finset.univ (s_store k) (.inl rfl)) fun _ =>
  .op (.enqueueDma (sChunk k) (.remote (Dev.tc n) (oChunk z k) (.dma (sendS k))) (.dma (recvS k)) (s_words k) (o_words z k)
    ⟨⟨rfl, Or.inl rfl⟩, trivial⟩) fun _ => rest

/-- Stage the device's own half of slot `j` in chunk `k` of the other buffer and start its copy to the result. -/
def keepC (z : ℕ) (k : Fin 8) (j : Fin 2) (rest : P₀ F) : P₀ F :=
  .op (.load xV (hRect j (z % 2) (home_le z)).toLoadRect (View.loadsAt_vmem h_S1x512x1024)) fun v =>
  .op (.load lV (bRect (512 * k.val) (b_inb _ (bRow_le k))).toLoadRect (View.loadsAt_vmem h_S512x1024)) fun _ =>
  .op (.store lV (bRect (512 * k.val) (b_inb _ (bRow_le k))) (k0_pay1 v) Finset.univ (l_store k) (.inl rfl)) fun _ =>
  .op (.enqueueDma (lChunk k) (.here (oChunk z k)) (.dma (outS k)) (l_words k) (o_words z k) ⟨Or.inl rfl, trivial⟩) fun _ => rest

/-- The waits for chunk `k`: the partner's copy has landed here, ours has left, the local copy is done. -/
def recvC (z : ℕ) (k : Fin 8) (rest : P₀ F) : P₀ F :=
  .op (.waitDma2 (recvS k) (sChunk k) (oChunk (1 - z % 2) k) (s_words k) (o_words _ k)) fun _ => rest
def sentC (z : ℕ) (k : Fin 8) (rest : P₀ F) : P₀ F :=
  .op (.waitDma2 (sendS k) (oChunk z k) (sChunk k) (o_words z k) (s_words k)) fun _ => rest
def keptC (z : ℕ) (k : Fin 8) (rest : P₀ F) : P₀ F :=
  .op (.waitDma2 (outS k) (lChunk k) (oChunk z k) (l_words k) (o_words z k)) fun _ => rest

/-- Chunk `k`'s two copies, out of slot `j`. -/
def stepC (z : ℕ) (n : Dev nD) (k : Fin 8) (j : Fin 2) (rest : P₀ F) : P₀ F := sendC z n k j (keepC z k j rest)

/-- The body on a device whose z coordinate is `z` and whose partner is `P k` in chunk `k`'s text. -/
def bodyC (z : ℕ) (P : Fin 8 → Dev nD) : P₀ F :=
  fetchC 0 0 <| fetchC 1 1 <| fetchedC 0 0 <| stepC z (P 0) 0 0 <|
  fetchC 2 0 <| fetchedC 1 1 <| stepC z (P 1) 1 1 <| fetchC 3 1 <|
  fetchedC 2 0 <| stepC z (P 2) 2 0 <| fetchC 4 0 <| fetchedC 3 1 <|
  stepC z (P 3) 3 1 <| fetchC 5 1 <| fetchedC 4 0 <| stepC z (P 4) 4 0 <|
  fetchC 6 0 <| fetchedC 5 1 <| stepC z (P 5) 5 1 <| fetchC 7 1 <|
  fetchedC 6 0 <| stepC z (P 6) 6 0 <| fetchedC 7 1 <| stepC z (P 7) 7 1 <|
  recvC z 0 <| recvC z 1 <| recvC z 2 <| recvC z 3 <|
  recvC z 4 <| recvC z 5 <| recvC z 6 <| recvC z 7 <|
  sentC z 0 <| sentC z 1 <| sentC z 2 <| sentC z 3 <|
  sentC z 4 <| sentC z 5 <| sentC z 6 <| sentC z 7 <|
  keptC z 0 <| keptC z 1 <| keptC z 2 <| keptC z 3 <|
  keptC z 4 <| keptC z 5 <| keptC z 6 <| keptC z 7 <|
  .ret ⟨⟩

/-! ## The printed body is that sequence -/

/-- The partner as the text for z coordinate 0 computes it, chunk by chunk. -/
def partner0 (c : Dev nD) (h : k0_cond1 c = 1#1) : Fin 8 → Dev nD :=
  ![⟨k0_dev1 c, k0_dev1_lt c h⟩, ⟨k0_dev2 c, k0_dev2_lt c h⟩, ⟨k0_dev3 c, k0_dev3_lt c h⟩, ⟨k0_dev4 c, k0_dev4_lt c h⟩,
    ⟨k0_dev5 c, k0_dev5_lt c h⟩, ⟨k0_dev6 c, k0_dev6_lt c h⟩, ⟨k0_dev7 c, k0_dev7_lt c h⟩, ⟨k0_dev8 c, k0_dev8_lt c h⟩]
/-- And as the text for z coordinate 1 does. -/
def partner1 (c : Dev nD) (h : k0_cond2 c = 1#1) : Fin 8 → Dev nD :=
  ![⟨k0_dev9 c, k0_dev9_lt c h⟩, ⟨k0_dev10 c, k0_dev10_lt c h⟩, ⟨k0_dev11 c, k0_dev11_lt c h⟩, ⟨k0_dev12 c, k0_dev12_lt c h⟩,
    ⟨k0_dev13 c, k0_dev13_lt c h⟩, ⟨k0_dev14 c, k0_dev14_lt c h⟩, ⟨k0_dev15 c, k0_dev15_lt c h⟩, ⟨k0_dev16 c, k0_dev16_lt c h⟩]

theorem partner0_eq (c : Dev nD) (h : k0_cond1 c = 1#1) : partner0 c h = fun _ => peer c := by
  revert h; revert c; decide +kernel
theorem partner1_eq (c : Dev nD) (h : k0_cond2 c = 1#1) : partner1 c h = fun _ => peer c := by
  revert h; revert c; decide +kernel

theorem cond1_iff (c : Dev nD) : k0_cond1 c = 1#1 ↔ zc c = 0 := by revert c; decide +kernel
theorem cond2_iff (c : Dev nD) : k0_cond2 c = 1#1 ↔ zc c = 1 := by revert c; decide +kernel

/-- The kernel's body at its operands. -/
abbrev body : P₀ F :=
  cc0_body (Memref.whole main_arg0) (Memref.isWhole_whole _) (Memref.whole main_v1) (Memref.isWhole_whole _) (Memref.whole cc0_scratch0) (Memref.isWhole_whole _)
    (Memref.whole cc0_scratch1) (Memref.isWhole_whole _) (Memref.whole cc0_scratch2) (Memref.isWhole_whole _) cc0_scratch3 cc0_scratch4 cc0_scratch5 cc0_scratch6

/-- The body once the device is known. -/
def bodyAt (c : Dev nD) : P₀ F := bodyC (zc c) fun _ => peer c

theorem body_eq : body (F := F) = .op .deviceId (bodyAt (F := F)) := by
  refine (congrArg (fun b => b (Memref.whole main_arg0) (Memref.isWhole_whole _) (Memref.whole main_v1) (Memref.isWhole_whole _) (Memref.whole cc0_scratch0)
    (Memref.isWhole_whole _) (Memref.whole cc0_scratch1) (Memref.isWhole_whole _) (Memref.whole cc0_scratch2) (Memref.isWhole_whole _) cc0_scratch3 cc0_scratch4
    cc0_scratch5 cc0_scratch6) (cc0_body_eq_skeleton (F := F))).trans ?_
  refine congrArg (Prog.op _) (funext fun c => ?_)
  by_cases h : zc c = 0
  · have h1 : k0_cond1 c = 1#1 := (cond1_iff c).2 h
    have h2 : ¬ k0_cond2 c = 1#1 := fun e => by rw [cond2_iff, h] at e; exact absurd e (by decide)
    refine (dif_pos h1).trans ?_
    rw [dif_neg h2]
    unfold bodyAt
    rw [h, ← partner0_eq c h1]
    rfl
  · have h' : zc c = 1 := by unfold zc at h ⊢; omega
    have h1 : ¬ k0_cond1 c = 1#1 := fun e => h ((cond1_iff c).1 e)
    have h2 : k0_cond2 c = 1#1 := (cond2_iff c).2 h'
    refine (dif_neg h1).trans ?_
    refine (dif_pos h2).trans ?_
    unfold bodyAt
    rw [h', ← partner1_eq c h2]
    rfl

end Cert.AllToAll

end
-- ==== Proof.Values.lean ====
/-
  What the staged halves hold, read off the argument, and what they make of the result's chunks when they land.
-/
module

public import proofs.«01_k».proof.Proof.Prog
public import Idealize.ShloMosaic.Lib.Pipeline.Value

@[expose] public section

set_option maxRecDepth 16384

noncomputable section

namespace Cert.AllToAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-- Contents of the two-slot buffer whose slot `j` holds chunk `k` of `g`. -/
def Holds (g : (Memref.whole main_arg0 : Memref sig .tc .hbm S4096x2048 .f32).view.ty.Contents (Elt F)) (k : Fin 8) (j : Fin 2)
    (f : (xSlot j).view.ty.Contents (Elt F)) : Prop :=
  (xSlot j).view.read (Elt F) f = (xChunk k).view.read (Elt F) g

theorem row_lt (k : Fin 8) (y : S512x1024.Idx) : 512 * k.val + (y 0).val < 4096 := by
  have h : (y 0).val < 512 := (y 0).isLt
  have := k.isLt; omega
theorem col_lt (q : ℕ) (hq : q ≤ 1) (y : S512x1024.Idx) : q * 1024 + (y 1).val < 2048 := by
  have h : (y 1).val < 1024 := (y 1).isLt
  omega

/-- The half of slot `j` the body stages is the argument's chunk, rounded. -/
theorem staged_half {g : (Memref.whole main_arg0 : Memref sig .tc .hbm S4096x2048 .f32).view.ty.Contents (Elt F)} {k : Fin 8} {j : Fin 2}
    {f : (xSlot j).view.ty.Contents (Elt F)} (h : Holds g k j f) (q : ℕ) (hq : q ≤ 1) (y : S512x1024.Idx) :
    k0_pay1 (F := F) (xV.view.readAt (Elt F) (hRect j q hq).toLoadRect f) y
      = FloatOps.truncf (F := F) (φ := .f32) .bf16 (by decide) (g (xIdx (512 * k.val + (y 0).val) (q * 1024 + (y 1).val) (row_lt k y) (col_lt q hq y))) := by
  have e1 : k0_pay1 (F := F) (xV.view.readAt (Elt F) (hRect j q hq).toLoadRect f) y
      = FloatOps.truncf (F := F) (φ := .f32) .bf16 (by decide) (shapeCast S512x1024 (xV.view.readAt (Elt F) (hRect j q hq).toLoadRect f) shapeCasts_S1x512x1024_S512x1024 y) := by
    unfold k0_pay1
    refine (shapeCast_apply _ _ y y rfl).trans ?_
    rfl
  rw [e1]
  refine congrArg _ ?_
  refine (shapeCast_dropUnit_apply _ _ _ _).trans ?_
  let w : S512x2048.Idx := fun a => ⟨(![(y 0).val, q * 1024 + (y 1).val] : Fin 2 → ℕ) a, by
    fin_cases a
    · exact (y 0).isLt
    · exact col_lt q hq y⟩
  have h2 := congrFun h w
  have e2 : (xSlot j).view.read (Elt F) f w = f ((Rect.unit (s := S2x512x2048) ![j.val, 0, 0] S1x512x2048.size (v_inb j)).toLoadRect.idx (Fin.cons ⟨0, Nat.one_pos⟩ w)) :=
    (congrFun (Memref.read_squeeze_slice xV (Rect.unit (s := S2x512x2048) ![j.val, 0, 0] S1x512x2048.size (v_inb j)) (fun _ => rfl) squeezes_S1x512x2048_S512x2048
      (Shape.Squeezes.numel_eq squeezes_S1x512x2048_S512x2048) f) w).trans (shapeCast_dropUnit_apply _ _ _ _)
  rw [e2] at h2
  refine (Eq.trans ?_ h2).trans ?_
  · refine congrArg f (funext fun a => Fin.ext ?_)
    fin_cases a
    · rfl
    · show 0 + 1 * (y 0).val = 0 + 1 * (y 0).val; rfl
    · show q * 1024 + 1 * (y 1).val = 0 + 1 * (q * 1024 + (y 1).val); omega
  · refine congrArg g (Shape.idx_ext₂ ?_ ?_)
    · show 512 * k.val + 1 * (y 0).val = 512 * k.val + (y 0).val; omega
    · show 0 + 1 * (q * 1024 + (y 1).val) = q * 1024 + (y 1).val; omega

/-- Columns half `q` of chunk `k` of device `c`'s argument, rounded. -/
def half (c : Dev nD) (k : Fin 8) (q : ℕ) (hq : q ≤ 1) : S512x1024.Idx → Elt F .bf16 := fun y =>
  FloatOps.truncf (F := F) (φ := .f32) .bf16 (by decide)
    (m ((c : Thread nD τ).loc main_arg0) (xIdx (512 * k.val + (y 0).val) (q * 1024 + (y 1).val) (row_lt k y) (col_lt q hq y)))

/-- On a chunk written with what the result should hold there, the buffer is the result. -/
theorem chunk_written (d : Dev nD) (z : ℕ) (k : Fin 8) (fd : (oChunk z k).view.ty.Contents (Elt F)) (w : S512x1024.Idx → Elt F .bf16)
    (G : (oChunk z k).view.ty.Contents (Elt F)) (h : ∀ y, w y = G ((oChunk z k).view.emb y)) :
    ∀ i ∈ (oChunk z k).view.set, (oChunk z k).view.write (Elt F) fd w Finset.univ i = G i := by
  intro i hi
  obtain ⟨y, -, rfl⟩ := Finset.mem_map.mp hi
  refine (View.write_emb_of_mem fd w (Finset.mem_univ y)).trans ?_
  rw [h y]; rfl

/-- The result of device `d` on chunk `k` of row block `z`. -/
theorem outv_chunk (c d : Dev nD) (z : ℕ) (hz : z < 2) (k : Fin 8) (hc : (if z = d.val % 2 then d else peer d) = c) (q : ℕ) (hq : q ≤ 1) (hd : d.val % 2 = q)
    (y : S512x1024.Idx) : half m c k q hq y = outv m d ((oChunk z k).view.emb y) := by
  subst hd
  have hy : (y 0).val < 512 := (y 0).isLt
  have hk := k.isLt
  have h0 : ((oChunk z k).view.emb y 0).val = z * 4096 + (512 * k.val + (y 0).val) := by
    show z % 2 * 4096 + 512 * k.val + 1 * (y 0).val = _
    rw [Nat.mod_eq_of_lt hz]; omega
  have h1 : ((oChunk z k).view.emb y 1).val = (y 1).val := by
    show 0 + 1 * (y 1).val = _; omega
  have hdiv : ((oChunk z k).view.emb y 0).val / 4096 = z := by rw [h0]; omega
  have hmod : ((oChunk z k).view.emb y 0).val % 4096 = 512 * k.val + (y 0).val := by rw [h0]; omega
  unfold half outv
  refine congrArg _ ?_
  have hdev : (if ((oChunk z k).view.emb y 0).val / 4096 = d.val % 2 then d else peer d) = c := by rw [hdiv]; exact hc
  rw [hdev]
  refine congrArg _ (Shape.idx_ext₂ ?_ ?_)
  · exact hmod.symm
  · show d.val % 2 * 1024 + (y 1).val = d.val % 2 * 1024 + ((oChunk z k).view.emb y 1).val
    rw [h1]

theorem peer_ne (c : Dev nD) : ¬ c.val % 2 = (peer c).val % 2 := by rw [peer_mod]; omega

/-- What leaves for the partner is the partner's result on the sender's row block. -/
theorem outv_away (c : Dev nD) (k : Fin 8) (y : S512x1024.Idx) :
    half m c k (1 - zc c % 2) (away_le _) y = outv m (peer c) ((oChunk (zc c) k).view.emb y) :=
  outv_chunk m c (peer c) (zc c) (Nat.mod_lt _ (by decide)) k (by rw [if_neg (peer_ne c), peer_peer]) _ _
    (by rw [peer_mod]; show _ = 1 - c.val % 2 % 2; omega) y
/-- What stays is the device's own result on its own row block. -/
theorem outv_home (c : Dev nD) (k : Fin 8) (y : S512x1024.Idx) :
    half m c k (zc c % 2) (home_le _) y = outv m c ((oChunk (zc c) k).view.emb y) :=
  outv_chunk m c c (zc c) (Nat.mod_lt _ (by decide)) k (if_pos rfl) _ _ (by show _ = c.val % 2 % 2; omega) y

end Cert.AllToAll

end
-- ==== Proof.Steps.lean ====
/-
  The chunk steps of the body, each run once for any chunk: the fetches and their waits, the staging of the two halves with the
  copies they start, and the waits for a chunk's landing, for its departure and for its local copy.
-/
module

public import proofs.«01_k».proof.Proof.Values
public import Idealize.ShloMosaic.Lib.Transfers
public import Idealize.ShloMosaic.Lib.Rounds

@[expose] public section

set_option maxRecDepth 16384

noncomputable section

namespace Cert.AllToAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 16 → ℕ)

abbrev 𝒱₀ : Variants := Variants.none

/-- Running `p` on device `c` ends in `Q`. -/
abbrev Runs (c : Dev nD) (p : P₀ F) (Q : PUnit → sProp 𝕄) : sProp 𝕄 := wp frame (wpE (defs₀ (F := F)) 𝒱₀ (c : Thread nD τ) none) Set.univ p Q

/-- Device `c` owes `n` chunks. -/
def ow (c : Dev nD) (n : ℕ) : sProp 𝕄 := iprop(∃ W, owes (c : Thread nD τ) (owed c n) W)

/-- Chunk `k` of the argument. -/
def xPts (c : Dev nD) (k : Fin 8) : sProp 𝕄 :=
  ((xChunk k).view.loc (c : Thread nD τ) ↦[(xChunk k).view.set]{fullShare} m ((c : Thread nD τ).loc main_arg0))
/-- Slot `j` holding chunk `k`. -/
def slotHas (c : Dev nD) (k : Fin 8) (j : Fin 2) : sProp 𝕄 :=
  iprop(∃ f : Buf (Elt F) ((xSlot j).view.loc (c : Thread nD τ)), ⌜Holds (m ((c : Thread nD τ).loc main_arg0)) k j f⌝
    ∗ ((xSlot j).view.loc (c : Thread nD τ) ↦[(xSlot j).view.set]{fullShare} f))
/-- A slot's credit. -/
abbrev NX : ℕ := (xSlot 0).view.dmaCredit
theorem NX_pos : 0 < NX := View.dmaCredit_pos _ (by decide)
/-- Chunk `k` on its way into slot `j`. -/
def fetching (c : Dev nD) (k : Fin 8) (j : Fin 2) : sProp 𝕄 := Flight EC (c : Thread nD τ) (.dma (inS j)) () NX iprop(slotHas m c k j ∗ xPts m c k)

/-- The local copy of chunk `k` on its way. -/
def keeping (c : Dev nD) (k : Fin 8) : sProp 𝕄 :=
  Flight EC (c : Thread nD τ) (.dma (outS k)) () N
    iprop(some_pts (F := F) c (lChunk k) ∗ ((oChunk (zc c) k).view.loc (c : Thread nD τ) ↦[(oChunk (zc c) k).view.set]{fullShare} outv m c))

theorem wp_fetch (c : Dev nD) (k : Fin 8) (j : Fin 2) (rest : P₀ F) (Q : PUnit → sProp 𝕄) :
    iprop((xPts m c k ∗ some_pts (F := F) c (xSlot j) ∗ semVal ((c : Thread nD τ), .dma (inS j)) 0) ∗ (fetching m c k j -∗ Runs c rest Q))
      ⊢ Runs c (fetchC k j rest) Q := by
  unfold xPts fetchC
  iintro ⟨⟨Hx, ⟨%fd, Hd⟩, Hv⟩, Hk⟩
  iapply (wp_dmaLocal EC 𝒱₀ (c : Thread nD τ) none (via := .same) () NX rfl NX_pos subset_rfl) $$ [Hx Hd Hv]
  · isplitl [Hx]; · iexact Hx
    isplitl [Hd]; · iexact Hd
    iexact Hv
  iintro Hf
  iapply Hk
  unfold fetching
  iapply (Flight_mono EC _ ?_) $$ Hf
  iintro ⟨Hd, Hx⟩
  unfold slotHas xPts
  isplitl [Hd]
  · iexists ((xSlot j).view.write (Elt F) fd ((xChunk k).view.read (Elt F) (m ((c : Thread nD τ).loc main_arg0))) Finset.univ)
    isplitr [Hd]
    · ipureintro
      exact View.read_write_univ _ _
    · iexact Hd
  · iexact Hx

theorem wp_fetched (c : Dev nD) (k : Fin 8) (j : Fin 2) (n : ℕ) (rest : P₀ F) (Q : PUnit → sProp 𝕄) :
    iprop((fetching m c k j ∗ ow (F := F) c n ∗ levAts L lv)
        ∗ ((slotHas m c k j ∗ xPts m c k ∗ semVal ((c : Thread nD τ), .dma (inS j)) 0 ∗ ow (F := F) c n) -∗ Runs c rest Q))
      ⊢ Runs c (fetchedC k j rest) Q := by
  unfold fetching ow fetchedC
  iintro ⟨⟨Hf, ⟨%W, HO⟩, Hl⟩, Hk⟩
  iapply (wp_waitLocalO EC 𝒱₀ (c : Thread nD τ) none (srcw := xChunk k) (dstw := xSlot j) (hsrc := x_words k) (hdst := v_words j) () (N := NX) rfl) $$ [Hf HO Hl]
  · isplitl [Hf]; · iexact Hf
    isplitl [HO]; · iexact HO
    iapply (mayWait_low c (.dma (inS j)) (by show j.val < 18; omega) n) $$ Hl
  iintro ⟨⟨Hs, Hx⟩, Hv, HO⟩
  iapply Hk
  isplitl [Hs]; · iexact Hs
  isplitl [Hx]; · iexact Hx
  isplitl [Hv]; · iexact Hv
  iexists _; iexact HO

/-! ## Staging a chunk and starting its copies -/

theorem xSlot_sub (j : Fin 2) (q : ℕ) (hq : q ≤ 1) : xV.view.setOn (hRect j q hq).toLoadRect.set ⊆ (xSlot j).view.set := by
  rw [View.set_reshape, View.set_slice]
  refine Finset.map_subset_map.mpr fun i hi => ?_
  rw [Rect.mem_set_unit] at hi ⊢
  intro a
  have h := hi a
  fin_cases a
  · exact h
  · exact h
  · refine ⟨Nat.zero_le _, ?_⟩
    exact lt_of_lt_of_eq (i 2).isLt (by rfl)

/-- The exchange's ghost state for a chunk not yet sent, with the chunk's buffers. -/
def fresh (c : Dev nD) (k : Fin 8) : sProp 𝕄 :=
  iprop(ghostAt m K c k
    ∗ (some_pts (F := F) c (sChunk k) ∗ some_pts (F := F) c (lChunk k) ∗ some_pts (F := F) c (oChunk (zc c) k) ∗ some_pts (F := F) (peer c) (oChunk (zc c) k)
      ∗ semVal ((c : Thread nD τ), .dma (outS k)) 0))

/-- The same once the chunk's remote copy has started. -/
def away (c : Dev nD) (k : Fin 8) : sProp 𝕄 :=
  iprop((cellInv ER (xchg m) (K (c, Fin.castAdd 8 k)) (sendCell c k) ∗ cellInv ER (xchg m) (K (c, Fin.natAdd 8 k)) (recvCell c k))
    ∗ atPos ER (sendCell c k) 0 ∅ 0 ∗ atPos ER (recvCell c k) 0 ∅ 0 ∗ cred (tallyAt (recvCell c k) () N) ∗ cred (tallyAt (sendCell c k) () N))

theorem owed_step (c : Dev nD) (k : Fin 8) : owed c (8 - k.val) = owed c (7 - k.val) + tallyAt (recvCell (peer c) k) () N := by
  revert k
  intro k
  fin_cases k <;> rfl

theorem holds_half {c : Dev nD} {k : Fin 8} {j : Fin 2} {f : (xSlot j).view.ty.Contents (Elt F)}
    (h : Holds (m ((c : Thread nD τ).loc main_arg0)) k j f) (q : ℕ) (hq : q ≤ 1) :
    k0_pay1 (F := F) (xV.view.readAt (Elt F) (hRect j q hq).toLoadRect f) = half m c k q hq :=
  funext fun y => staged_half h q hq y

/-- What a chunk's remote copy writes is what the partner's receive cell owes it. -/
theorem landed_away (c : Dev nD) (k : Fin 8) (fs : Buf (Elt F) ((sChunk k).view.loc (c : Thread nD τ))) (fd : Buf (Elt F) ((oChunk (zc c) k).view.loc (peer c : Thread nD τ))) :
    ((oChunk (zc c) k).view.loc (peer c : Thread nD τ) ↦[(oChunk (zc c) k).view.set]{fullShare}
        (oChunk (zc c) k).view.write (Elt F) fd
          ((sChunk k).view.read (Elt F) ((sV.access (bRect (512 * k.val) (b_inb _ (bRow_le k)))).write (Elt F) fs (half m c k (1 - zc c % 2) (away_le _)) Finset.univ)) Finset.univ : sProp 𝕄)
      ⊢ recvPay m (peer c) k := by
  unfold recvPay
  rw [peer_peer, show (sChunk k).view.read (Elt F) ((sV.access (bRect (512 * k.val) (b_inb _ (bRow_le k)))).write (Elt F) fs (half m c k (1 - zc c % 2) (away_le _)) Finset.univ)
    = half m c k (1 - zc c % 2) (away_le _) from View.read_write_univ _ _]
  exact Entails.of_eq (pointsTo_congr (chunk_written (peer c) (zc c) k fd _ (outv m (peer c)) (outv_away m c k)))

/-- And its local copy writes the device's own result. -/
theorem landed_home (c : Dev nD) (k : Fin 8) (fs : Buf (Elt F) ((lChunk k).view.loc (c : Thread nD τ))) (fd : Buf (Elt F) ((oChunk (zc c) k).view.loc (c : Thread nD τ))) :
    ((oChunk (zc c) k).view.loc (c : Thread nD τ) ↦[(oChunk (zc c) k).view.set]{fullShare}
        (oChunk (zc c) k).view.write (Elt F) fd
          ((lChunk k).view.read (Elt F) ((lV.access (bRect (512 * k.val) (b_inb _ (bRow_le k)))).write (Elt F) fs (half m c k (zc c % 2) (home_le _)) Finset.univ)) Finset.univ : sProp 𝕄)
      ⊢ ((oChunk (zc c) k).view.loc (c : Thread nD τ) ↦[(oChunk (zc c) k).view.set]{fullShare} outv m c) := by
  rw [show (lChunk k).view.read (Elt F) ((lV.access (bRect (512 * k.val) (b_inb _ (bRow_le k)))).write (Elt F) fs (half m c k (zc c % 2) (home_le _)) Finset.univ)
    = half m c k (zc c % 2) (home_le _) from View.read_write_univ _ _]
  exact Entails.of_eq (pointsTo_congr (chunk_written c (zc c) k fd _ (outv m c) (outv_home m c k)))

theorem wp_sendC (c : Dev nD) (k : Fin 8) (j : Fin 2) (rest : P₀ F) (Q : PUnit → sProp 𝕄) :
    iprop((slotHas m c k j ∗ ow (F := F) c (8 - k.val) ∗ ghostAt m K c k ∗ some_pts (F := F) c (sChunk k) ∗ some_pts (F := F) (peer c) (oChunk (zc c) k))
        ∗ ((slotHas m c k j ∗ ow (F := F) c (7 - k.val) ∗ away m K c k) -∗ Runs c rest Q))
      ⊢ Runs c (sendC (zc c) (peer c) k j rest) Q := by
  unfold slotHas ow ghostAt sendC
  iintro ⟨⟨⟨%f, %hf, Hx⟩, ⟨%W, HO⟩, ⟨⟨#Is, #Ir, #Ip, #Rs, #Rp⟩, As, Ar, Ts, Tp, Cr⟩, ⟨%fs, Hs⟩, ⟨%fd, Hd⟩⟩, Hk⟩
  iapply (wp_load 𝒱₀ (c : Thread nD τ) none Set.univ (m := xV) (hl := View.loadsAt_vmem h_S1x512x1024) (xSlot_sub j _ (away_le _))) $$ Hx
  iintro Hx
  rw [holds_half m hf]
  iapply (wp_load_rect 𝒱₀ (c : Thread nD τ) none Set.univ (m := sV) (hl := View.loadsAt_vmem h_S512x1024) (r := bRect (512 * k.val) (b_inb _ (bRow_le k))) subset_rfl) $$ Hs
  iintro Hs
  iapply (wp_store 𝒱₀ (c : Thread nD τ) none Set.univ (m := sV) (hx := s_store k) (hm := .inl rfl) (r := bRect (512 * k.val) (b_inb _ (bRow_le k))) (View.setOn_subset_set _ _)) $$ Hs
  iintro Hs
  iapply (Rounds.wp_send_pointsTo 𝒱₀ ER (xchg m) (c : Thread nD τ) none (c' := (peer c : Thread nD τ)) (src := sChunk k) (dst := oChunk (zc c) k)
      (hsrc := s_words k) (hdst := o_words _ k) (κ₁ := K (c, Fin.castAdd 8 k)) (κ₂ := K (peer c, Fin.natAdd 8 k)) (r₁ := 0) (r₂ := 0) (d₁ := false) (d₂ := false)
      (by rw [duties_send]; exact Finset.mem_singleton_self _) (by rw [duties_recv]; exact Finset.mem_singleton_self _)
      (fs := (sV.access (bRect (512 * k.val) (b_inb _ (bRow_le k)))).write (Elt F) fs (half m c k (1 - zc c % 2) (away_le _)) Finset.univ) (fd := fd)
      () () N rfl (amount_eq m _ _ _) (amount_eq m _ _ _) (owed c (7 - k.val)) (owed_step c k)
      (by rw [payload_send]; exact exists_intro (PROP := sProp 𝕄) ((sV.access (bRect (512 * k.val) (b_inb _ (bRow_le k)))).write (Elt F) fs (half m c k (1 - zc c % 2) (away_le _)) Finset.univ))
      (by rw [payload_recv]; exact landed_away m c k fs fd)) $$ [Hs Hd HO Ts Tp]
  · isplitr; · iexact Is
    isplitr; · iexact Ip
    isplitl [Hs]; · iexact Hs
    isplitl [Hd]; · iexact Hd
    isplitl [HO]; · iexact HO
    isplitl [Ts]; · iexact Ts
    isplitr; · iexact Rs
    isplitl [Tp]; · iexact Tp
    iexact Rp
  iintro ⟨Cs, HO⟩
  iapply Hk
  unfold away
  isplitl [Hx]
  · iexists f
    isplitr [Hx]; · ipureintro; exact hf
    iexact Hx
  isplitl [HO]; · iexists W; iexact HO
  isplitr; · isplitr; · iexact Is
             iexact Ir
  isplitl [As]; · iexact As
  isplitl [Ar]; · iexact Ar
  isplitl [Cr]; · iexact Cr
  iexact Cs

theorem wp_keepC (c : Dev nD) (k : Fin 8) (j : Fin 2) (rest : P₀ F) (Q : PUnit → sProp 𝕄) :
    iprop((slotHas m c k j ∗ some_pts (F := F) c (lChunk k) ∗ some_pts (F := F) c (oChunk (zc c) k) ∗ semVal ((c : Thread nD τ), .dma (outS k)) 0)
        ∗ ((some_pts (F := F) c (xSlot j) ∗ keeping m c k) -∗ Runs c rest Q))
      ⊢ Runs c (keepC (zc c) k j rest) Q := by
  unfold slotHas keepC
  iintro ⟨⟨⟨%f, %hf, Hx⟩, ⟨%fs, Hs⟩, ⟨%fd, Hd⟩, Hv⟩, Hk⟩
  iapply (wp_load 𝒱₀ (c : Thread nD τ) none Set.univ (m := xV) (hl := View.loadsAt_vmem h_S1x512x1024) (xSlot_sub j _ (home_le _))) $$ Hx
  iintro Hx
  rw [holds_half m hf]
  iapply (wp_load_rect 𝒱₀ (c : Thread nD τ) none Set.univ (m := lV) (hl := View.loadsAt_vmem h_S512x1024) (r := bRect (512 * k.val) (b_inb _ (bRow_le k))) subset_rfl) $$ Hs
  iintro Hs
  iapply (wp_store 𝒱₀ (c : Thread nD τ) none Set.univ (m := lV) (hx := l_store k) (hm := .inl rfl) (r := bRect (512 * k.val) (b_inb _ (bRow_le k))) (View.setOn_subset_set _ _)) $$ Hs
  iintro Hs
  iapply (wp_dmaLocal EC 𝒱₀ (c : Thread nD τ) none (src := lChunk k) (dst := oChunk (zc c) k) (via := .same) () N rfl N_pos subset_rfl) $$ [Hs Hd Hv]
  · isplitl [Hs]; · iexact Hs
    isplitl [Hd]; · iexact Hd
    iexact Hv
  iintro Hf
  iapply Hk
  isplitl [Hx]; · iexists f; iexact Hx
  unfold keeping
  iapply (Flight_mono EC _ ?_) $$ Hf
  iintro ⟨Hd, Hs⟩
  isplitl [Hs]
  · iexists ((lV.access (bRect (512 * k.val) (b_inb _ (bRow_le k)))).write (Elt F) fs (half m c k (zc c % 2) (home_le _)) Finset.univ)
    iexact Hs
  · iapply (landed_home m c k fs fd) $$ Hd

/-- A chunk after its step: its remote copy, its local copy and the partner's copy are on their ways. -/
def flying (c : Dev nD) (k : Fin 8) : sProp 𝕄 := iprop(away m K c k ∗ keeping m c k)

theorem wp_step (c : Dev nD) (k : Fin 8) (j : Fin 2) (rest : P₀ F) (Q : PUnit → sProp 𝕄) :
    iprop((slotHas m c k j ∗ ow (F := F) c (8 - k.val) ∗ fresh m K c k)
        ∗ ((some_pts (F := F) c (xSlot j) ∗ ow (F := F) c (7 - k.val) ∗ flying m K c k) -∗ Runs c rest Q))
      ⊢ Runs c (stepC (zc c) (peer c) k j rest) Q := by
  unfold stepC fresh
  iintro ⟨⟨Hx, HO, HG, Hs, Hl, Ho, Hp, Hv⟩, Hk⟩
  iapply (wp_sendC m K c k j)
  isplitl [Hx HO HG Hs Hp]
  · isplitl [Hx]; · iexact Hx
    isplitl [HO]; · iexact HO
    isplitl [HG]; · iexact HG
    isplitl [Hs]; · iexact Hs
    iexact Hp
  iintro ⟨Hx, HO, Ha⟩
  iapply (wp_keepC m c k j)
  isplitl [Hx Hl Ho Hv]
  · isplitl [Hx]; · iexact Hx
    isplitl [Hl]; · iexact Hl
    isplitl [Ho]; · iexact Ho
    iexact Hv
  iintro ⟨Hx, Hf⟩
  iapply Hk
  isplitl [Hx]; · iexact Hx
  isplitl [HO]; · iexact HO
  unfold flying
  isplitl [Ha]; · iexact Ha
  iexact Hf

/-! ## The waits -/

/-- A chunk received. -/
def got (c : Dev nD) (k : Fin 8) : sProp 𝕄 :=
  iprop((cellInv ER (xchg m) (K (c, Fin.castAdd 8 k)) (sendCell c k) ∗ atPos ER (sendCell c k) 0 ∅ 0 ∗ cred (tallyAt (sendCell c k) () N))
    ∗ keeping m c k ∗ recvPay m c k ∗ semVal (recvCell c k) 0)
/-- A chunk received and sent. -/
def sent (c : Dev nD) (k : Fin 8) : sProp 𝕄 :=
  iprop((sendPay (F := F) c k ∗ semVal (sendCell c k) 0) ∗ keeping m c k ∗ recvPay m c k ∗ semVal (recvCell c k) 0)
/-- A chunk done. -/
def landed (c : Dev nD) (k : Fin 8) : sProp 𝕄 :=
  iprop(some_pts (F := F) c (sChunk k) ∗ some_pts (F := F) c (lChunk k)
    ∗ ((oChunk (zc c) k).view.loc (c : Thread nD τ) ↦[(oChunk (zc c) k).view.set]{fullShare} outv m c) ∗ recvPay m c k
    ∗ semVal ((c : Thread nD τ), .dma (outS k)) 0 ∗ semVal (sendCell c k) 0 ∗ semVal (recvCell c k) 0)

theorem owed_zero (c : Dev nD) : owed c 0 = 0 := rfl
theorem N_out (z : ℕ) (k : Fin 8) : (oChunk z k).view.dmaCredit = N := rfl
theorem N_send (k : Fin 8) : (sChunk k).view.dmaCredit = N := rfl

/-- A wait for a chunk's credit, in any spelling of the chunk. -/
theorem wait_out (c : Dev nD) (sm : DmaSem sig) (z : ℕ) (k : Fin 8) (Kt : PUnit → sProp 𝕄) :
    wpE' (defs₀ (F := F)) 𝒱₀ (c : Thread nD τ) none PendingWaitsCtx.empty Set.univ (.waitDma2 sm (sChunk k) (oChunk z k) (s_words k) (o_words z k)) Kt
      = waitSpec (c : Thread nD τ) Set.univ (.dma sm) N Kt :=
  (wpE_waitDma2_eq 𝒱₀ (c : Thread nD τ) none Set.univ Kt).trans (by rw [N_out])
theorem wait_send (c : Dev nD) (sm : DmaSem sig) (z : ℕ) (k : Fin 8) (Kt : PUnit → sProp 𝕄) :
    wpE' (defs₀ (F := F)) 𝒱₀ (c : Thread nD τ) none PendingWaitsCtx.empty Set.univ (.waitDma2 sm (oChunk z k) (sChunk k) (o_words z k) (s_words k)) Kt
      = waitSpec (c : Thread nD τ) Set.univ (.dma sm) N Kt :=
  (wpE_waitDma2_eq 𝒱₀ (c : Thread nD τ) none Set.univ Kt).trans (by rw [N_send])

theorem wp_recv (c : Dev nD) (k : Fin 8) (rest : P₀ F) (Q : PUnit → sProp 𝕄) :
    iprop((flying m K c k ∗ ow (F := F) c 0) ∗ ((got m K c k ∗ ow (F := F) c 0) -∗ Runs c rest Q))
      ⊢ Runs c (recvC (zc c) k rest) Q := by
  unfold flying away ow recvC
  iintro ⟨⟨⟨⟨⟨#Is, #Ir⟩, As, Ar, Cr, Cs⟩, Hf⟩, ⟨%W, HO⟩⟩, Hk⟩
  rw [owed_zero]
  iapply (Rounds.wp_wait_rest_token 𝒱₀ ER (xchg m) (c : Thread nD τ) none (κ := K (c, Fin.natAdd 8 k)) (sm := .dma (recvS k)) (k' := N)
      (w := .waitDma2 (recvS k) (sChunk k) (oChunk (1 - zc c % 2) k) (s_words k) (o_words _ k))
      (wait_out c _ _ k) (Set.mem_univ _) () (O := 0) (W := W) (R := 0) (m := 0) (T := ∅)
      (by rw [Nat.zero_add]; exact (expect_recv m c k).symm)) $$ [Ar Cr HO]
  · isplitr; · iexact Ir
    isplitl [Cr]; · iexact Cr
    isplitl [HO]; · iexact HO
    isplitr; · rw [MayWait_zero]; iempintro
    iexact Ar
  rw [rest_recv]
  iintro ⟨HO, Ar, -, Hp⟩
  imod (Rounds.cell_close ER (xchg m) (Set.mem_univ (K (c, Fin.natAdd 8 k))) (fun h => h) (R := 0 + 1) (duties_later m _)) $$ [Ar] with Hv
  · isplitr; · iexact Ir
    iexact Ar
  iapply Hk
  unfold got
  isplitr [HO]
  · isplitl [As Cs]
    · isplitr; · iexact Is
      isplitl [As]; · iexact As
      iexact Cs
    isplitl [Hf]; · iexact Hf
    isplitl [Hp]; · iexact Hp
    iexact Hv
  · iexists _; iexact HO

theorem wp_sent (c : Dev nD) (k : Fin 8) (rest : P₀ F) (Q : PUnit → sProp 𝕄) :
    iprop((got m K c k ∗ ow (F := F) c 0) ∗ ((sent m c k ∗ ow (F := F) c 0) -∗ Runs c rest Q))
      ⊢ Runs c (sentC (zc c) k rest) Q := by
  unfold got ow sentC
  iintro ⟨⟨⟨⟨#Is, As, Cs⟩, Hr⟩, ⟨%W, HO⟩⟩, Hk⟩
  rw [owed_zero]
  iapply (Rounds.wp_wait_rest_token 𝒱₀ ER (xchg m) (c : Thread nD τ) none (κ := K (c, Fin.castAdd 8 k)) (sm := .dma (sendS k)) (k' := N)
      (w := .waitDma2 (sendS k) (oChunk (zc c) k) (sChunk k) (o_words _ k) (s_words k))
      (wait_send c _ _ k) (Set.mem_univ _) () (O := 0) (W := W) (R := 0) (m := 0) (T := ∅)
      (by rw [Nat.zero_add]; exact (expect_send m c k).symm)) $$ [As Cs HO]
  · isplitr; · iexact Is
    isplitl [Cs]; · iexact Cs
    isplitl [HO]; · iexact HO
    isplitr; · rw [MayWait_zero]; iempintro
    iexact As
  rw [rest_send]
  iintro ⟨HO, As, -, Hp⟩
  imod (Rounds.cell_close ER (xchg m) (Set.mem_univ (K (c, Fin.castAdd 8 k))) (fun h => h) (R := 0 + 1) (duties_later m _)) $$ [As] with Hv
  · isplitr; · iexact Is
    iexact As
  iapply Hk
  unfold sent
  isplitr [HO]
  · isplitl [Hp Hv]
    · isplitl [Hp]; · iexact Hp
      iexact Hv
    iexact Hr
  · iexists _; iexact HO

theorem wp_kept (c : Dev nD) (k : Fin 8) (rest : P₀ F) (Q : PUnit → sProp 𝕄) :
    iprop((sent m c k ∗ ow (F := F) c 0) ∗ ((landed m c k ∗ ow (F := F) c 0) -∗ Runs c rest Q))
      ⊢ Runs c (keptC (zc c) k rest) Q := by
  unfold sent keeping ow keptC
  iintro ⟨⟨⟨⟨Hs, Hv⟩, Hf, Hr, Hw⟩, ⟨%W, HO⟩⟩, Hk⟩
  rw [owed_zero]
  iapply (wp_waitLocal EC 𝒱₀ (c : Thread nD τ) none (srcw := lChunk k) (dstw := oChunk (zc c) k) (hsrc := l_words k) (hdst := o_words _ k) () (N := N) rfl) $$ [Hf HO]
  · isplitl [Hf]; · iexact Hf
    iexact HO
  iintro ⟨⟨Hl, Ho⟩, Hu, HO⟩
  iapply Hk
  unfold landed
  unfold sendPay
  isplitr [HO]
  · isplitl [Hs]; · iexact Hs
    isplitl [Hl]; · iexact Hl
    isplitl [Ho]; · iexact Ho
    isplitl [Hr]; · iexact Hr
    isplitl [Hu]; · iexact Hu
    isplitl [Hv]; · iexact Hv
    iexact Hw
  · iexists _; iexact HO

end Cert.AllToAll

end
-- ==== Proof.Body.lean ====
/-
  The body from its first fetch to its last wait: six turns of the two slots, the two chunks that end them, and the three rows of waits.
-/
module

public import proofs.«01_k».proof.Proof.Steps

@[expose] public section

set_option maxRecDepth 16384

noncomputable section

namespace Cert.AllToAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 16 → ℕ)

/-- One turn of slot `j`: chunk `k` arrives, its copies start, the fetch of chunk `k'` follows. -/
theorem wp_turn (c : Dev nD) (k k' : Fin 8) (j : Fin 2) (rest : P₀ F) (Q : PUnit → sProp 𝕄) :
    iprop((fetching m c k j ∗ xPts m c k' ∗ fresh m K c k ∗ ow (F := F) c (8 - k.val) ∗ levAts L lv)
        ∗ ((fetching m c k' j ∗ xPts m c k ∗ flying m K c k ∗ ow (F := F) c (7 - k.val)) -∗ Runs c rest Q))
      ⊢ Runs c (fetchedC k j <| stepC (zc c) (peer c) k j <| fetchC k' j rest) Q := by
  iintro ⟨⟨Hf, Hx', Hg, HO, Hl⟩, Hk⟩
  iapply (wp_fetched m c k j (8 - k.val))
  isplitl [Hf HO Hl]
  · isplitl [Hf]; · iexact Hf
    isplitl [HO]; · iexact HO
    iexact Hl
  iintro ⟨Hs, Hx, Hv, HO⟩
  iapply (wp_step m K c k j)
  isplitl [Hs Hg HO]
  · isplitl [Hs]; · iexact Hs
    isplitl [HO]; · iexact HO
    iexact Hg
  iintro ⟨Hs, HO, Hg⟩
  iapply (wp_fetch m c k' j)
  isplitl [Hs Hx' Hv]
  · isplitl [Hx']; · iexact Hx'
    isplitl [Hs]; · iexact Hs
    iexact Hv
  iintro Hf
  iapply Hk
  isplitl [Hf]; · iexact Hf
  isplitl [Hx]; · iexact Hx
  isplitl [Hg]; · iexact Hg
  iexact HO

/-- The last chunk of slot `j`. -/
theorem wp_lastTurn (c : Dev nD) (k : Fin 8) (j : Fin 2) (rest : P₀ F) (Q : PUnit → sProp 𝕄) :
    iprop((fetching m c k j ∗ fresh m K c k ∗ ow (F := F) c (8 - k.val) ∗ levAts L lv)
        ∗ ((some_pts (F := F) c (xSlot j) ∗ semVal ((c : Thread nD τ), .dma (inS j)) 0 ∗ xPts m c k ∗ flying m K c k ∗ ow (F := F) c (7 - k.val)) -∗ Runs c rest Q))
      ⊢ Runs c (fetchedC k j <| stepC (zc c) (peer c) k j rest) Q := by
  iintro ⟨⟨Hf, Hg, HO, Hl⟩, Hk⟩
  iapply (wp_fetched m c k j (8 - k.val))
  isplitl [Hf HO Hl]
  · isplitl [Hf]; · iexact Hf
    isplitl [HO]; · iexact HO
    iexact Hl
  iintro ⟨Hs, Hx, Hv, HO⟩
  iapply (wp_step m K c k j)
  isplitl [Hs Hg HO]
  · isplitl [Hs]; · iexact Hs
    isplitl [HO]; · iexact HO
    iexact Hg
  iintro ⟨Hs, HO, Hg⟩
  iapply Hk
  isplitl [Hs]; · iexact Hs
  isplitl [Hv]; · iexact Hv
  isplitl [Hx]; · iexact Hx
  isplitl [Hg]; · iexact Hg
  iexact HO

/-- A row of eight steps, one for each chunk, each taking its chunk from `A` to `B`. -/
theorem wp_row (c : Dev nD) (A B : Fin 8 → sProp 𝕄) (O : sProp 𝕄) (C : Fin 8 → P₀ F → P₀ F)
    (hC : ∀ (k : Fin 8) (rest : P₀ F) (Q : PUnit → sProp 𝕄), iprop((A k ∗ O) ∗ ((B k ∗ O) -∗ Runs c rest Q)) ⊢ Runs c (C k rest) Q)
    (rest : P₀ F) (Q : PUnit → sProp 𝕄) :
    iprop((bigSep Finset.univ A ∗ O) ∗ ((bigSep Finset.univ B ∗ O) -∗ Runs c rest Q))
      ⊢ Runs c (C 0 <| C 1 <| C 2 <| C 3 <| C 4 <| C 5 <| C 6 <| C 7 rest) Q := by
  rw [bigSep_fin8, bigSep_fin8]
  iintro ⟨⟨⟨H0, H1, H2, H3, H4, H5, H6, H7⟩, HO⟩, Hk⟩
  iapply (hC 0)
  isplitl [H0 HO]
  · isplitl [H0]; · iexact H0
    iexact HO
  iintro ⟨H0, HO⟩
  iapply (hC 1)
  isplitl [H1 HO]
  · isplitl [H1]; · iexact H1
    iexact HO
  iintro ⟨H1, HO⟩
  iapply (hC 2)
  isplitl [H2 HO]
  · isplitl [H2]; · iexact H2
    iexact HO
  iintro ⟨H2, HO⟩
  iapply (hC 3)
  isplitl [H3 HO]
  · isplitl [H3]; · iexact H3
    iexact HO
  iintro ⟨H3, HO⟩
  iapply (hC 4)
  isplitl [H4 HO]
  · isplitl [H4]; · iexact H4
    iexact HO
  iintro ⟨H4, HO⟩
  iapply (hC 5)
  isplitl [H5 HO]
  · isplitl [H5]; · iexact H5
    iexact HO
  iintro ⟨H5, HO⟩
  iapply (hC 6)
  isplitl [H6 HO]
  · isplitl [H6]; · iexact H6
    iexact HO
  iintro ⟨H6, HO⟩
  iapply (hC 7)
  isplitl [H7 HO]
  · isplitl [H7]; · iexact H7
    iexact HO
  iintro ⟨H7, HO⟩
  iapply Hk
  isplitr [HO]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iexact HO

theorem sound (c : Dev nD) (Kt : PUnit → sProp 𝕄) :
    iprop((bigSep Finset.univ (fresh m K c) ∗ bigSep Finset.univ (xPts m c) ∗ slots (F := F) c ∗ ow (F := F) c 8 ∗ levAts L lv)
        ∗ ((bigSep Finset.univ (landed m c) ∗ bigSep Finset.univ (xPts m c) ∗ slots (F := F) c ∗ ow (F := F) c 0) -∗ Kt ⟨⟩))
      ⊢ Runs c (body (F := F)) Kt := by
  rw [body_eq]; unfold Runs; rw [wp_deviceId]
  rw [bigSep_fin8 (fresh m K c), bigSep_fin8 (xPts m c)]
  unfold slots bodyAt bodyC
  iintro ⟨⟨⟨G0, G1, G2, G3, G4, G5, G6, G7⟩, ⟨X0, X1, X2, X3, X4, X5, X6, X7⟩, ⟨S0, S1, V0, V1⟩, HO, #Hl⟩, Hk⟩
  iapply (wp_fetch m c 0 0)
  isplitl [X0 S0 V0]
  · isplitl [X0]; · iexact X0
    isplitl [S0]; · iexact S0
    iexact V0
  iintro S0
  iapply (wp_fetch m c 1 1)
  isplitl [X1 S1 V1]
  · isplitl [X1]; · iexact X1
    isplitl [S1]; · iexact S1
    iexact V1
  iintro S1
  iapply (wp_turn m K c 0 2 0)
  isplitl [S0 X2 G0 HO]
  · isplitl [S0]; · iexact S0
    isplitl [X2]; · iexact X2
    isplitl [G0]; · iexact G0
    isplitl [HO]; · iexact HO
    iexact Hl
  iintro ⟨S0, X0, G0, HO⟩
  iapply (wp_turn m K c 1 3 1)
  isplitl [S1 X3 G1 HO]
  · isplitl [S1]; · iexact S1
    isplitl [X3]; · iexact X3
    isplitl [G1]; · iexact G1
    isplitl [HO]; · iexact HO
    iexact Hl
  iintro ⟨S1, X1, G1, HO⟩
  iapply (wp_turn m K c 2 4 0)
  isplitl [S0 X4 G2 HO]
  · isplitl [S0]; · iexact S0
    isplitl [X4]; · iexact X4
    isplitl [G2]; · iexact G2
    isplitl [HO]; · iexact HO
    iexact Hl
  iintro ⟨S0, X2, G2, HO⟩
  iapply (wp_turn m K c 3 5 1)
  isplitl [S1 X5 G3 HO]
  · isplitl [S1]; · iexact S1
    isplitl [X5]; · iexact X5
    isplitl [G3]; · iexact G3
    isplitl [HO]; · iexact HO
    iexact Hl
  iintro ⟨S1, X3, G3, HO⟩
  iapply (wp_turn m K c 4 6 0)
  isplitl [S0 X6 G4 HO]
  · isplitl [S0]; · iexact S0
    isplitl [X6]; · iexact X6
    isplitl [G4]; · iexact G4
    isplitl [HO]; · iexact HO
    iexact Hl
  iintro ⟨S0, X4, G4, HO⟩
  iapply (wp_turn m K c 5 7 1)
  isplitl [S1 X7 G5 HO]
  · isplitl [S1]; · iexact S1
    isplitl [X7]; · iexact X7
    isplitl [G5]; · iexact G5
    isplitl [HO]; · iexact HO
    iexact Hl
  iintro ⟨S1, X5, G5, HO⟩
  iapply (wp_lastTurn m K c 6 0)
  isplitl [S0 G6 HO]
  · isplitl [S0]; · iexact S0
    isplitl [G6]; · iexact G6
    isplitl [HO]; · iexact HO
    iexact Hl
  iintro ⟨S0, V0, X6, G6, HO⟩
  iapply (wp_lastTurn m K c 7 1)
  isplitl [S1 G7 HO]
  · isplitl [S1]; · iexact S1
    isplitl [G7]; · iexact G7
    isplitl [HO]; · iexact HO
    iexact Hl
  iintro ⟨S1, V1, X7, G7, HO⟩
  iapply (wp_row c (flying m K c) (got m K c) (ow (F := F) c 0) (recvC (zc c)) (wp_recv m K c))
  isplitl [G0 G1 G2 G3 G4 G5 G6 G7 HO]
  · rw [bigSep_fin8 (flying m K c)]
    isplitr [HO]
    · isplitl [G0]; · iexact G0
      isplitl [G1]; · iexact G1
      isplitl [G2]; · iexact G2
      isplitl [G3]; · iexact G3
      isplitl [G4]; · iexact G4
      isplitl [G5]; · iexact G5
      isplitl [G6]; · iexact G6
      iexact G7
    iexact HO
  iintro HG
  iapply (wp_row c (got m K c) (sent m c) (ow (F := F) c 0) (sentC (zc c)) (wp_sent m K c))
  isplitl [HG]; · iexact HG
  iintro HG
  iapply (wp_row c (sent m c) (landed m c) (ow (F := F) c 0) (keptC (zc c)) (wp_kept m c))
  isplitl [HG]; · iexact HG
  iintro ⟨HG, HO⟩
  unfold Runs; rw [wp_ret]
  imodintro
  iapply Hk
  isplitl [HG]; · iexact HG
  isplitl [X0 X1 X2 X3 X4 X5 X6 X7]
  · isplitl [X0]; · iexact X0
    isplitl [X1]; · iexact X1
    isplitl [X2]; · iexact X2
    isplitl [X3]; · iexact X3
    isplitl [X4]; · iexact X4
    isplitl [X5]; · iexact X5
    isplitl [X6]; · iexact X6
    iexact X7
  isplitr [HO]
  · isplitl [S0]; · iexact S0
    isplitl [S1]; · iexact S1
    isplitl [V0]; · iexact V0
    iexact V1
  iexact HO

end Cert.AllToAll

end
-- ==== Proof.Pieces.lean ====
/-
  Whole buffers as their chunks: the argument and the two staging buffers in eight, the two-slot buffer in two, the result
  in its two row blocks of eight.
-/
module

public import proofs.«01_k».proof.Proof.Body

@[expose] public section

set_option maxRecDepth 16384

noncomputable section

namespace Cert.AllToAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## Which elements a chunk has -/

/-- Eight blocks of 512 rows: each row below 4096 is in exactly one. -/
theorem block_of (n : ℕ) (h : n < 4096) : 512 * (n / 512) ≤ n ∧ n < 512 * (n / 512) + 512 := by omega

theorem mem_xChunk (k : Fin 8) (i : S4096x2048.Idx) : Iff (i ∈ (xChunk k).view.set) (512 * k.val ≤ (i 0).val ∧ (i 0).val < 512 * k.val + 512) := by
  have e : (xChunk k).view.set = (Rect.unit (s := S4096x2048) ![512 * k.val, 0] S512x2048.size (x_inb _ (bRow_le k))).set := View.set_slice_whole _ _
  rw [e, Rect.mem_set_unit]
  refine ⟨fun h => h 0, fun h a => ?_⟩
  fin_cases a
  · exact h
  · exact ⟨Nat.zero_le _, by show (i 1).val < 0 + 2048; rw [Nat.zero_add]; exact (i 1).isLt⟩

theorem mem_bRect (k : Fin 8) (i : S4096x1024.Idx) :
    Iff (i ∈ (bRect (512 * k.val) (b_inb _ (bRow_le k))).set) (512 * k.val ≤ (i 0).val ∧ (i 0).val < 512 * k.val + 512) := by
  rw [Rect.mem_set_unit]
  refine ⟨fun h => h 0, fun h a => ?_⟩
  fin_cases a
  · exact h
  · exact ⟨Nat.zero_le _, by show (i 1).val < 0 + 1024; rw [Nat.zero_add]; exact (i 1).isLt⟩

theorem mem_oChunk (z : ℕ) (k : Fin 8) (i : S8192x1024.Idx) : Iff (i ∈ (oChunk z k).view.set) (oRow z k ≤ (i 0).val ∧ (i 0).val < oRow z k + 512) := by
  have e : (oChunk z k).view.set = (oRect (oRow z k) (o_inb _ (oRow_le z k))).set := View.set_slice_whole _ _
  rw [e, Rect.mem_set_unit]
  refine ⟨fun h => h 0, fun h a => ?_⟩
  fin_cases a
  · exact h
  · exact ⟨Nat.zero_le _, by show (i 1).val < 0 + 1024; rw [Nat.zero_add]; exact (i 1).isLt⟩

theorem mem_xSlot (j : Fin 2) (i : S2x512x2048.Idx) : Iff (i ∈ (xSlot j).view.set) ((i 0).val = j.val) := by
  have e : (xSlot j).view.set = (Rect.unit (s := S2x512x2048) ![j.val, 0, 0] S1x512x2048.size (v_inb j)).set :=
    (View.set_reshape _ _).trans (View.set_slice_whole _ _)
  rw [e, Rect.mem_set_unit]
  refine ⟨fun h => ?_, fun h a => ?_⟩
  · have h0 : j.val ≤ (i 0).val ∧ (i 0).val < j.val + 1 := h 0
    omega
  · fin_cases a
    · show j.val ≤ (i 0).val ∧ (i 0).val < j.val + 1; omega
    · exact ⟨Nat.zero_le _, by show (i 1).val < 0 + 512; rw [Nat.zero_add]; exact (i 1).isLt⟩
    · exact ⟨Nat.zero_le _, by show (i 2).val < 0 + 2048; rw [Nat.zero_add]; exact (i 2).isLt⟩

/-- Sets of indices told apart by a number each index has are disjoint; -/
theorem sets_disjoint {I B : Type} [DecidableEq I] {S : B → Finset I} (p : I → B → Prop) (hS : ∀ b i, Iff (i ∈ S b) (p i b))
    (hp : ∀ i b b', p i b → p i b' → b = b') : ∀ b b', b ≠ b' → Disjoint (S b) (S b') := fun b b' hb =>
  Finset.disjoint_left.mpr fun i h h' => hb (hp i b b' ((hS b i).mp h) ((hS b' i).mp h'))
/-- and cover when each index has one. -/
theorem sets_cover {I B : Type} [DecidableEq I] [Fintype I] [Fintype B] {S : B → Finset I} (p : I → B → Prop) (hS : ∀ b i, Iff (i ∈ S b) (p i b))
    (hp : ∀ i, ∃ b, p i b) : Finset.univ.biUnion S = Finset.univ :=
  Finset.eq_univ_iff_forall.mpr fun i => by
    obtain ⟨b, hb⟩ := hp i
    exact Finset.mem_biUnion.mpr ⟨b, Finset.mem_univ b, (hS b i).mpr hb⟩

/-- Row `n` lies in block `k`. -/
abbrev InBlock (n : ℕ) (k : Fin 8) : Prop := 512 * k.val ≤ n ∧ n < 512 * k.val + 512
theorem inBlock_inj (n : ℕ) (k k' : Fin 8) (h : InBlock n k) (h' : InBlock n k') : k = k' := Fin.ext (by unfold InBlock at h h'; omega)
theorem inBlock_some (n : ℕ) (h : n < 4096) : ∃ k, InBlock n k := ⟨⟨n / 512, by omega⟩, block_of n h⟩

/-! ## The argument, and the staging buffers -/

/-- The argument held whole is held chunk by chunk. -/
theorem x_pieces (c : Dev nD) :
    ((c : Thread nD τ).loc main_arg0 ↦{fullShare} m ((c : Thread nD τ).loc main_arg0) : sProp 𝕄) = bigSep Finset.univ (xPts m c) :=
  Ring.pointsTo_blocks (ℓ := (c : Thread nD τ).loc main_arg0) (fun k : Fin 8 => (xChunk k).view.set)
    (sets_disjoint _ mem_xChunk fun i => inBlock_inj (i 0).val) (sets_cover _ mem_xChunk fun i => inBlock_some (i 0).val (i 0).isLt) _

/-- Known contents are some contents. -/
theorem some_intro {sp : Space} {s : Shape} {e : EltTy} (c : Dev nD) (v : Memref sig .tc sp s e) (f : Buf (Elt F) (v.view.loc (c : Thread nD τ))) :
    (v.view.loc (c : Thread nD τ) ↦[v.view.set]{fullShare} f : sProp 𝕄) ⊢ some_pts c v := by
  iintro H; iexists f; iexact H

theorem mem_sChunk (k : Fin 8) (i : S4096x1024.Idx) : Iff (i ∈ (sChunk k).view.set) (InBlock (i 0).val k) := by
  rw [show (sChunk k).view.set = (bRect (512 * k.val) (b_inb _ (bRow_le k))).set from View.set_slice_whole _ _]; exact mem_bRect k i
theorem mem_lChunk (k : Fin 8) (i : S4096x1024.Idx) : Iff (i ∈ (lChunk k).view.set) (InBlock (i 0).val k) := by
  rw [show (lChunk k).view.set = (bRect (512 * k.val) (b_inb _ (bRow_le k))).set from View.set_slice_whole _ _]; exact mem_bRect k i

theorem s_split (c : Dev nD) :
    iprop(∃ f : Buf (Elt F) ((c : Thread nD τ).loc cc0_scratch1), (c : Thread nD τ).loc cc0_scratch1 ↦{fullShare} f) ⊢ (bigSep Finset.univ fun k => some_pts c (sChunk k) : sProp 𝕄) := by
  refine exists_elim fun f => ?_
  have h := Ring.pointsTo_blocks (Ix := Unit) (Name := ℕ) (U := UU) (Lvl := ℕ) (q := fullShare) (ℓ := (c : Thread nD τ).loc cc0_scratch1) (fun k : Fin 8 => (sChunk k).view.set)
    (sets_disjoint _ mem_sChunk fun i => inBlock_inj (i 0).val) (sets_cover _ mem_sChunk fun i => inBlock_some (i 0).val (i 0).isLt) f
  rw [h]
  exact bigSep_mono fun k _ => some_intro c (sChunk k) f
include m in
theorem s_join (c : Dev nD) :
    (bigSep Finset.univ fun k => some_pts c (sChunk k) : sProp 𝕄) ⊢ iprop(∃ f : Buf (Elt F) ((c : Thread nD τ).loc cc0_scratch1), (c : Thread nD τ).loc cc0_scratch1 ↦{fullShare} f) := by
  have h := Ring.pointsTo_blocks_join_exists (Ix := Unit) (Name := ℕ) (U := UU) (Lvl := ℕ) (ℓ := (c : Thread nD τ).loc cc0_scratch1) (fun k : Fin 8 => (sChunk k).view.set)
    (sets_disjoint _ mem_sChunk fun i => inBlock_inj (i 0).val) (sets_cover _ mem_sChunk fun i => inBlock_some (i 0).val (i 0).isLt) (q := fullShare) (m ((c : Thread nD τ).loc cc0_scratch1))
  exact h
theorem l_split (c : Dev nD) :
    iprop(∃ f : Buf (Elt F) ((c : Thread nD τ).loc cc0_scratch2), (c : Thread nD τ).loc cc0_scratch2 ↦{fullShare} f) ⊢ (bigSep Finset.univ fun k => some_pts c (lChunk k) : sProp 𝕄) := by
  refine exists_elim fun f => ?_
  have h := Ring.pointsTo_blocks (Ix := Unit) (Name := ℕ) (U := UU) (Lvl := ℕ) (q := fullShare) (ℓ := (c : Thread nD τ).loc cc0_scratch2) (fun k : Fin 8 => (lChunk k).view.set)
    (sets_disjoint _ mem_lChunk fun i => inBlock_inj (i 0).val) (sets_cover _ mem_lChunk fun i => inBlock_some (i 0).val (i 0).isLt) f
  rw [h]
  exact bigSep_mono fun k _ => some_intro c (lChunk k) f
include m in
theorem l_join (c : Dev nD) :
    (bigSep Finset.univ fun k => some_pts c (lChunk k) : sProp 𝕄) ⊢ iprop(∃ f : Buf (Elt F) ((c : Thread nD τ).loc cc0_scratch2), (c : Thread nD τ).loc cc0_scratch2 ↦{fullShare} f) := by
  have h := Ring.pointsTo_blocks_join_exists (Ix := Unit) (Name := ℕ) (U := UU) (Lvl := ℕ) (ℓ := (c : Thread nD τ).loc cc0_scratch2) (fun k : Fin 8 => (lChunk k).view.set)
    (sets_disjoint _ mem_lChunk fun i => inBlock_inj (i 0).val) (sets_cover _ mem_lChunk fun i => inBlock_some (i 0).val (i 0).isLt) (q := fullShare) (m ((c : Thread nD τ).loc cc0_scratch2))
  exact h

theorem slot_inj (i : S2x512x2048.Idx) (j j' : Fin 2) (h : (i 0).val = j.val) (h' : (i 0).val = j'.val) : j = j' := Fin.ext (h.symm.trans h')
theorem slot_some (i : S2x512x2048.Idx) : ∃ j : Fin 2, (i 0).val = j.val := ⟨⟨(i 0).val, (i 0).isLt⟩, rfl⟩

theorem v_split (c : Dev nD) :
    iprop(∃ f : Buf (Elt F) ((c : Thread nD τ).loc cc0_scratch0), (c : Thread nD τ).loc cc0_scratch0 ↦{fullShare} f)
      ⊢ (iprop(some_pts c (xSlot 0) ∗ some_pts c (xSlot 1)) : sProp 𝕄) :=
  exists_elim fun f => (Entails.of_eq ((Ring.pointsTo_blocks (ℓ := (c : Thread nD τ).loc cc0_scratch0) (fun j : Fin 2 => (xSlot j).view.set)
    (sets_disjoint _ mem_xSlot slot_inj) (sets_cover _ mem_xSlot slot_some) f).trans (BI.bigSep_fin_two _))).trans
    (sep_mono (exists_intro f) (exists_intro f))
include m in
theorem v_join (c : Dev nD) :
    (iprop(some_pts c (xSlot 0) ∗ some_pts c (xSlot 1)) : sProp 𝕄)
      ⊢ iprop(∃ f : Buf (Elt F) ((c : Thread nD τ).loc cc0_scratch0), (c : Thread nD τ).loc cc0_scratch0 ↦{fullShare} f) :=
  (Entails.of_eq (BI.bigSep_fin_two fun j : Fin 2 => some_pts (F := F) c (xSlot j)).symm).trans
    (Ring.pointsTo_blocks_join_exists (ℓ := (c : Thread nD τ).loc cc0_scratch0) (fun j : Fin 2 => (xSlot j).view.set)
      (sets_disjoint _ mem_xSlot slot_inj) (sets_cover _ mem_xSlot slot_some) (m _))

/-! ## The result -/

/-- Chunk `k` of row block `z` of device `c`'s result. -/
def oPts (c : Dev nD) (z : ℕ) (k : Fin 8) (f : Buf (Elt F) ((c : Thread nD τ).loc main_v1)) : sProp 𝕄 :=
  ((oChunk z k).view.loc (c : Thread nD τ) ↦[(oChunk z k).view.set]{fullShare} f)

/-- Device `c`'s result held whole is held chunk by chunk: its own row block's chunks and its partner's. -/
theorem o_pieces (c : Dev nD) (f : Buf (Elt F) ((c : Thread nD τ).loc main_v1)) :
    ((c : Thread nD τ).loc main_v1 ↦{fullShare} f : sProp 𝕄)
      = iprop((bigSep Finset.univ fun k => oPts c (zc c) k f) ∗ bigSep Finset.univ fun k => oPts c (zc (peer c)) k f) := by
  have hz := peer_mod c
  have hS (b : Fin 8 ⊕ Fin 8) (i : S8192x1024.Idx) : Iff (i ∈ (oChunk (Sum.elim (fun _ => zc c) (fun _ => zc (peer c)) b) (Sum.elim id id b)).view.set)
      (oRow (Sum.elim (fun _ => zc c) (fun _ => zc (peer c)) b) (Sum.elim id id b) ≤ (i 0).val
        ∧ (i 0).val < oRow (Sum.elim (fun _ => zc c) (fun _ => zc (peer c)) b) (Sum.elim id id b) + 512) := mem_oChunk _ _ i
  refine (Ring.pointsTo_blocks (ℓ := (c : Thread nD τ).loc main_v1)
    (fun b : Fin 8 ⊕ Fin 8 => (oChunk (Sum.elim (fun _ => zc c) (fun _ => zc (peer c)) b) (Sum.elim id id b)).view.set)
    (sets_disjoint _ hS fun i b b' h h' => ?_) (sets_cover _ hS fun i => ?_) f).trans (BI.bigSep_univ_sum _)
  · rcases b with k | k <;> rcases b' with k' | k' <;>
      simp only [Sum.elim_inl, Sum.elim_inr, id, oRow, zc] at h h' <;> have := k.isLt <;> have := k'.isLt
    · exact congrArg Sum.inl (Fin.ext (by omega))
    · omega
    · omega
    · exact congrArg Sum.inr (Fin.ext (by omega))
  · have hi : (i 0).val < 8192 := (i 0).isLt
    by_cases h : (i 0).val / 4096 = zc c
    · refine ⟨Sum.inl ⟨(i 0).val % 4096 / 512, by omega⟩, ?_⟩
      simp only [Sum.elim_inl, id, oRow, zc] at h ⊢; omega
    · refine ⟨Sum.inr ⟨(i 0).val % 4096 / 512, by omega⟩, ?_⟩
      simp only [Sum.elim_inr, id, oRow, zc] at h ⊢; omega

end Cert.AllToAll

end
-- ==== Proof.Deal.lean ====
/-
  Dealing out the launch: the ghost state of the exchange's cells and the buffers the devices of a pair lend each other, from what
  every device holds at the start to what each device's kernel starts from.
-/
module

public import proofs.«01_k».proof.Proof.Pieces
public import Idealize.ShloMosaic.Lib.Pipeline.Launch
public import Idealize.ShloMosaic.Lib.Pipeline.Kit

@[expose] public section

set_option maxRecDepth 16384

noncomputable section

namespace Cert.AllToAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A product over a sum type is the product of its two parts. -/
theorem bigSep_parts {A B : Type} [Fintype A] [Fintype B] (Φ : A ⊕ B → sProp 𝕄) :
    bigSep Finset.univ Φ = iprop((bigSep Finset.univ fun a => Φ (.inl a)) ∗ bigSep Finset.univ fun b => Φ (.inr b)) := BI.bigSep_univ_sum Φ

/-! ## The kernel's own semaphores, and the exchange's cells among them -/

/-- The fetches' two, the local copies' eight, the sends' eight, the receives' eight. -/
abbrev Own : Type := Fin 2 ⊕ (Fin 8 ⊕ (Fin 8 ⊕ Fin 8))
abbrev osem : Own → SemLoc sig
  | .inl j => .dma (inS j)
  | .inr (.inl k) => .dma (outS k)
  | .inr (.inr (.inl k)) => .dma (sendS k)
  | .inr (.inr (.inr k)) => .dma (recvS k)

theorem ownSemFacts : Pipeline.OwnSemFacts cfg0.spec osem := by decide

/-- A device's own semaphores at zero. -/
abbrev owns0 (c : Dev nD) : sProp 𝕄 := Pipeline.ownSems0 (Ix := Unit) (Name := ℕ) (U := UU) (Lvl := ℕ) (Val := Elt F) (τ := τ) osem c

theorem owns0_eq (c : Dev nD) : (owns0 c : sProp 𝕄)
    = iprop((bigSep Finset.univ fun j : Fin 2 => semVal ((c : Thread nD τ), .dma (inS j)) 0) ∗ (bigSep Finset.univ fun k : Fin 8 => semVal ((c : Thread nD τ), .dma (outS k)) 0)
        ∗ (bigSep Finset.univ fun k : Fin 8 => semVal (sendCell c k) 0) ∗ bigSep Finset.univ fun k : Fin 8 => semVal (recvCell c k) 0) := by
  unfold owns0 Pipeline.ownSems0
  rw [bigSep_parts, bigSep_parts, bigSep_parts]

/-- The cells under the exchange's schedule. -/
abbrev xcell : Dev nD × (Fin 8 ⊕ Fin 8) → GSem nD τ sig
  | (c, .inl k) => sendCell c k
  | (c, .inr k) => recvCell c k

theorem xcell_injective : Function.Injective xcell := by
  rintro ⟨c, k | k⟩ ⟨c', k' | k'⟩ h
  all_goals
    have h1 : c = c' := congrArg (fun g : GSem nD τ sig => g.1.1) h
    have h2 := congrArg Prod.snd h
    subst h1
  · rw [sendS_inj h2]
  · exact absurd h2 (send_ne_recv k k')
  · exact absurd h2.symm (send_ne_recv k' k)
  · rw [recvS_inj h2]

def xcells : Finset (GSem nD τ sig) := Finset.univ.map ⟨xcell, xcell_injective⟩
/-- One duty per cell. -/
def xtoks : Finset (GSem nD τ sig × ℕ × Bool) :=
  Finset.univ.map ⟨fun ck => (xcell ck, 0, false), fun a b h => xcell_injective (congrArg Prod.fst h)⟩

/-- The launch's ghost element. -/
def u₀ : UU := (initOf (Pipeline.cells cfgs cellOf_inj) (Pipeline.launchToks cfgs cellOf_inj), (initOf xcells xtoks, (1 : Counters)))

theorem u₀_split : (ownU u₀ : sProp 𝕄)
    ⊢ iprop(BI.own (EP (F := F) (initOf (Pipeline.cells cfgs cellOf_inj) (Pipeline.launchToks cfgs cellOf_inj))) ∗ BI.own (ER (F := F) (initOf xcells xtoks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf xcells xtoks, (1 : Counters)))))

/-- What the element deals device `c`: its cells' states, its positions in them, its cells' duty tokens. -/
def G (c : Dev nD) : sProp 𝕄 :=
  iprop((bigSep Finset.univ fun k : Fin 8 ⊕ Fin 8 => roundState ER (xchg m) (xcell (c, k)) 0)
    ∗ (bigSep Finset.univ fun k : Fin 8 ⊕ Fin 8 => reached ER (xcell (c, k)) 0)
    ∗ (bigSep Finset.univ fun k : Fin 8 ⊕ Fin 8 => atPos ER (xcell (c, k)) 0 ∅ 0)
    ∗ bigSep Finset.univ fun k : Fin 8 ⊕ Fin 8 => dutyTok ER (xcell (c, k)) 0 false)

theorem fund_xchg : BI.own (ER (initOf xcells xtoks)) ⊢ (|==> bigSep Finset.univ (G m) : sProp 𝕄) := by
  have hX (Φ : GSem nD τ sig → sProp 𝕄) : bigSep xcells Φ = bigSep Finset.univ fun c : Dev nD => bigSep Finset.univ fun k : Fin 8 ⊕ Fin 8 => Φ (xcell (c, k)) := by
    unfold xcells; rw [bigSep_map, bigSep_univ_prod]; rfl
  have hT : bigSep xtoks (fun x => (dutyTok ER x.1 x.2.1 x.2.2 : sProp 𝕄))
      = bigSep Finset.univ fun c : Dev nD => bigSep Finset.univ fun k : Fin 8 ⊕ Fin 8 => dutyTok ER (xcell (c, k)) 0 false := by
    unfold xtoks; rw [bigSep_map, bigSep_univ_prod]; rfl
  have h := Rounds.fund (ER (F := F)) (xchg m) xcells xtoks
  rw [hX, hX, hX, hT] at h
  refine h.trans (BI.bupd_mono ?_)
  unfold G
  simp only [bigSep_sep']
  exact BI.Entails.refl _

/-! ## What each device's kernel starts from -/

/-- What device `c` alone holds of chunk `k`. -/
def lin (c : Dev nD) (k : Fin 8) : sProp 𝕄 :=
  iprop(atPos ER (sendCell c k) 0 ∅ 0 ∗ atPos ER (recvCell c k) 0 ∅ 0
    ∗ dutyTok ER (sendCell c k) 0 false ∗ dutyTok ER (recvCell (peer c) k) 0 false
    ∗ some_pts c (oChunk (zc c) k) ∗ some_pts (peer c) (oChunk (zc c) k) ∗ semVal ((c : Thread nD τ), .dma (outS k)) 0)

/-- The facts about cells device `c` uses for chunk `k`. -/
def facts (K : Dev nD × Fin 16 → ℕ) (c : Dev nD) (k : Fin 8) : sProp 𝕄 :=
  iprop(cellInv ER (xchg m) (K (c, Fin.castAdd 8 k)) (sendCell c k) ∗ cellInv ER (xchg m) (K (c, Fin.natAdd 8 k)) (recvCell c k)
      ∗ cellInv ER (xchg m) (K (peer c, Fin.natAdd 8 k)) (recvCell (peer c) k) ∗ reached ER (sendCell c k) 0 ∗ reached ER (recvCell (peer c) k) 0)

/-- What the global step hands device `c`. -/
def G' (c : Dev nD) : sProp 𝕄 :=
  iprop(∃ K, (bigSep Finset.univ fun k => iprop(facts m K c k ∗ lin c k)) ∗ bigSep Finset.univ (xPts m c)
    ∗ bigSep Finset.univ fun j : Fin 2 => semVal ((c : Thread nD τ), .dma (inS j)) 0)

/-- The cells' invariants and the rounds reached, for every device. -/
def records (K : Dev nD × (Fin 8 ⊕ Fin 8) → ℕ) : sProp 𝕄 :=
  iprop((bigSep Finset.univ fun ck => cellInv ER (xchg m) (K ck) (xcell ck)) ∗ bigSep Finset.univ fun ck => reached ER (xcell ck) 0)
instance records_persistent (K : Dev nD × (Fin 8 ⊕ Fin 8) → ℕ) : BI.Persistent (records m K) := by unfold records; infer_instance

theorem inv_at (K : Dev nD × (Fin 8 ⊕ Fin 8) → ℕ) (ck : Dev nD × (Fin 8 ⊕ Fin 8)) :
    (records m K : sProp 𝕄) ⊢ cellInv ER (xchg m) (K ck) (xcell ck) := by
  unfold records; exact sep_elim_left.trans (bigSep_elim (Finset.mem_univ ck))
theorem reached_at (K : Dev nD × (Fin 8 ⊕ Fin 8) → ℕ) (ck : Dev nD × (Fin 8 ⊕ Fin 8)) : (records m K : sProp 𝕄) ⊢ reached ER (xcell ck) 0 := by
  unfold records; exact sep_elim_right.trans (bigSep_elim (Finset.mem_univ ck))

/-- The invariants' names by device and chunk. -/
def names (K : Dev nD × (Fin 8 ⊕ Fin 8) → ℕ) : Dev nD × Fin 16 → ℕ := fun p => K (p.1, finSumFinEquiv.symm (show Fin (8 + 8) from p.2))
theorem names_send (K : Dev nD × (Fin 8 ⊕ Fin 8) → ℕ) (c : Dev nD) (k : Fin 8) : names K (c, Fin.castAdd 8 k) = K (c, .inl k) :=
  congrArg (fun x => K (c, x)) (finSumFinEquiv_symm_apply_castAdd k)
theorem names_recv (K : Dev nD × (Fin 8 ⊕ Fin 8) → ℕ) (c : Dev nD) (k : Fin 8) : names K (c, Fin.natAdd 8 k) = K (c, .inr k) :=
  congrArg (fun x => K (c, x)) (finSumFinEquiv_symm_apply_natAdd k)

theorem facts_intro (K : Dev nD × (Fin 8 ⊕ Fin 8) → ℕ) (c : Dev nD) (k : Fin 8) : (records m K : sProp 𝕄) ⊢ facts m (names K) c k := by
  unfold facts
  rw [names_send, names_recv, names_recv]
  iintro #H
  isplitr; · iapply (inv_at m K (c, .inl k)); iexact H
  isplitr; · iapply (inv_at m K (c, .inr k)); iexact H
  isplitr; · iapply (inv_at m K (peer c, .inr k)); iexact H
  isplitr; · iapply (reached_at m K (c, .inl k)); iexact H
  iapply (reached_at m K (peer c, .inr k)); iexact H

theorem bigSep_with {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-- What device `c` keeps of its own, -/
def keep (c : Dev nD) : sProp 𝕄 :=
  iprop((bigSep Finset.univ fun k => iprop(atPos ER (sendCell c k) 0 ∅ 0 ∗ atPos ER (recvCell c k) 0 ∅ 0
      ∗ dutyTok ER (sendCell c k) 0 false ∗ some_pts c (oChunk (zc c) k) ∗ semVal ((c : Thread nD τ), .dma (outS k)) 0))
    ∗ bigSep Finset.univ (xPts m c) ∗ bigSep Finset.univ fun j : Fin 2 => semVal ((c : Thread nD τ), .dma (inS j)) 0)
/-- and what it gives its partner: the duties of its receive cells, and the partner's row block of its own result. -/
def give (c : Dev nD) : sProp 𝕄 :=
  bigSep Finset.univ fun k => iprop(dutyTok ER (recvCell c k) 0 false ∗ some_pts c (oChunk (zc (peer c)) k))

theorem give_swap : (bigSep Finset.univ fun c : Dev nD => (give c : sProp 𝕄)) = bigSep Finset.univ fun c : Dev nD => give (peer c) :=
  bigSep_univ_equiv swap _

theorem deal_intro (K : Dev nD × (Fin 8 ⊕ Fin 8) → ℕ) (c : Dev nD) : iprop(records m K ∗ keep m c ∗ give (peer c)) ⊢ (G' m c : sProp 𝕄) := by
  unfold keep give G'
  rw [peer_peer]
  iintro ⟨#HR, ⟨Hk, Hx, Hi⟩, Hg⟩
  iexists (names K)
  isplitl [Hk Hg]
  · iapply (bigSep_with (F := F) (R := records m K)
      (Φ := fun k => iprop(iprop(atPos ER (sendCell c k) 0 ∅ 0 ∗ atPos ER (recvCell c k) 0 ∅ 0
        ∗ dutyTok ER (sendCell c k) 0 false ∗ some_pts c (oChunk (zc c) k) ∗ semVal ((c : Thread nD τ), .dma (outS k)) 0)
          ∗ iprop(dutyTok ER (recvCell (peer c) k) 0 false ∗ some_pts (peer c) (oChunk (zc c) k))))
      (Ψ := fun k => iprop(facts m (names K) c k ∗ lin c k)) fun k => by
        unfold lin
        iintro ⟨#HR, ⟨H1, H2, H3, H4, H5⟩, H6, H7⟩
        isplitr; · iapply (facts_intro m K c k); iexact HR
        isplitl [H1]; · iexact H1
        isplitl [H2]; · iexact H2
        isplitl [H3]; · iexact H3
        isplitl [H6]; · iexact H6
        isplitl [H4]; · iexact H4
        isplitl [H7]; · iexact H7
        iexact H5)
    isplitr; · iexact HR
    iapply (Entails.of_eq (bigSep_sep' Finset.univ _ _).symm)
    isplitl [Hk]; · iexact Hk
    iexact Hg
  isplitl [Hx]; · iexact Hx
  iexact Hi

/-! ## The global step -/

/-- Device `c`'s unscoped buffers at the launch. -/
abbrev bufs0 (c : Dev nD) : sProp 𝕄 := unscopedBufs c fun b => m ((c : Thread nD τ).loc b)

theorem bufs0_eq (c : Dev nD) : (bufs0 m c : sProp 𝕄)
    = iprop(((c : Thread nD τ).loc main_arg0 ↦{fullShare} m ((c : Thread nD τ).loc main_arg0)) ∗ ((c : Thread nD τ).loc main_v1 ↦{fullShare} m ((c : Thread nD τ).loc main_v1))) := by
  unfold bufs0
  rw [Pipeline.unscopedBufs_split cfgs 0 winFacts0.arr_unscoped winFacts0.arr_inj c, Finset.univ_eq_empty, BI.bigSep_empty]
  exact (BI.equiv_iff.mp BI.emp_sep).trans (unscopedRest0_eq c _)

/-- A device's pieces, sorted into what it keeps and what it gives. -/
theorem keep_give (c : Dev nD) :
    iprop((bigSep Finset.univ fun k : Fin 8 => atPos ER (sendCell c k) 0 ∅ 0) ∗ (bigSep Finset.univ fun k : Fin 8 => atPos ER (recvCell c k) 0 ∅ 0)
        ∗ (bigSep Finset.univ fun k : Fin 8 => dutyTok ER (sendCell c k) 0 false) ∗ (bigSep Finset.univ fun k => oPts c (zc c) k (m ((c : Thread nD τ).loc main_v1)))
        ∗ (bigSep Finset.univ fun k : Fin 8 => semVal ((c : Thread nD τ), .dma (outS k)) 0) ∗ bigSep Finset.univ (xPts m c)
        ∗ (bigSep Finset.univ fun j : Fin 2 => semVal ((c : Thread nD τ), .dma (inS j)) 0) ∗ (bigSep Finset.univ fun k : Fin 8 => dutyTok ER (recvCell c k) 0 false)
        ∗ bigSep Finset.univ fun k => oPts c (zc (peer c)) k (m ((c : Thread nD τ).loc main_v1)))
      ⊢ (iprop(keep m c ∗ give c) : sProp 𝕄) := by
  have own_some : (bigSep Finset.univ fun k => oPts c (zc c) k (m ((c : Thread nD τ).loc main_v1)) : sProp 𝕄)
      ⊢ bigSep Finset.univ fun k => some_pts c (oChunk (zc c) k) := bigSep_mono fun k _ => some_intro c (oChunk (zc c) k) _
  have away_some : (bigSep Finset.univ fun k => oPts c (zc (peer c)) k (m ((c : Thread nD τ).loc main_v1)) : sProp 𝕄)
      ⊢ bigSep Finset.univ fun k => some_pts c (oChunk (zc (peer c)) k) := bigSep_mono fun k _ => some_intro c (oChunk (zc (peer c)) k) _
  unfold keep give
  rw [bigSep_sep', bigSep_sep', bigSep_sep', bigSep_sep', bigSep_sep']
  iintro ⟨HaS, HaR, HtS, Ho, Hout, Hx, Hin, HtR, Hp⟩
  isplitr [Hp HtR]
  · isplitl [HaS HaR HtS Ho Hout]
    · isplitl [HaS]; · iexact HaS
      isplitl [HaR]; · iexact HaR
      isplitl [HtS]; · iexact HtS
      isplitl [Ho]; · iapply own_some; iexact Ho
      iexact Hout
    isplitl [Hx]; · iexact Hx
    iexact Hin
  · isplitl [HtR]; · iexact HtR
    iapply away_some; iexact Hp

/-- Each device's own part of the step: its cells' invariants allocated, its buffers cut into chunks. -/
theorem deal_local (c : Dev nD) :
    iprop(owns0 c ∗ unscopedSems0 c ∗ bufs0 m c ∗ G m c)
      ⊢ (|={Set.univ}=> iprop((bigSep Finset.univ fun k : Fin 8 ⊕ Fin 8 => iprop(∃ κ : ℕ, cellInv ER (xchg m) κ (xcell (c, k))))
          ∗ (bigSep Finset.univ fun k : Fin 8 ⊕ Fin 8 => reached ER (xcell (c, k)) 0) ∗ keep m c ∗ give c) : sProp 𝕄) := by
  rw [bufs0_eq, owns0_eq, x_pieces, o_pieces]
  unfold G
  iintro ⟨⟨Hin, Hout, Hs, Hr⟩, -, ⟨Hx, Ho, Hp⟩, Hst, HR, Hat, Htok⟩
  imod (show iprop((bigSep Finset.univ fun k : Fin 8 ⊕ Fin 8 => semVal (xcell (c, k)) 0) ∗ bigSep Finset.univ fun k : Fin 8 ⊕ Fin 8 => roundState ER (xchg m) (xcell (c, k)) 0)
      ⊢ (|={Set.univ}=> bigSep Finset.univ fun k => iprop(∃ κ : ℕ, cellInv ER (xchg m) κ (xcell (c, k))) : sProp 𝕄) from by
        rw [← bigSep_sep']
        exact (bigSep_mono fun k _ => (Rounds.body_intro ER (xchg m) (xcell (c, k))).trans inv_alloc).trans (bigSep_fupd _ _)) $$ [Hs Hr Hst] with Hinv
  · isplitl [Hs Hr]
    · rw [bigSep_parts]; isplitl [Hs]; · iexact Hs
      iexact Hr
    iexact Hst
  imodintro
  isplitl [Hinv]; · iexact Hinv
  isplitl [HR]; · iexact HR
  ihave Hat' := (Entails.of_eq (bigSep_parts (F := F) fun k => atPos ER (xcell (c, k)) 0 ∅ 0)) $$ Hat
  icases Hat' with ⟨HaS, HaR⟩
  ihave Htok' := (Entails.of_eq (bigSep_parts (F := F) fun k => dutyTok ER (xcell (c, k)) 0 false)) $$ Htok
  icases Htok' with ⟨HtS, HtR⟩
  iapply (keep_give m c)
  isplitl [HaS]; · iexact HaS
  isplitl [HaR]; · iexact HaR
  isplitl [HtS]; · iexact HtS
  isplitl [Ho]; · iexact Ho
  isplitl [Hout]; · iexact Hout
  isplitl [Hx]; · iexact Hx
  isplitl [Hin]; · iexact Hin
  isplitl [HtR]; · iexact HtR
  iexact Hp

/-- What each device gives goes to its partner. -/
theorem regroup :
    (bigSep Finset.univ fun c : Dev nD => iprop((bigSep Finset.univ fun k : Fin 8 ⊕ Fin 8 => iprop(∃ κ : ℕ, cellInv ER (xchg m) κ (xcell (c, k))))
        ∗ (bigSep Finset.univ fun k : Fin 8 ⊕ Fin 8 => reached ER (xcell (c, k)) 0) ∗ keep m c ∗ give c) : sProp 𝕄) ⊢ bigSep Finset.univ (G' m) := by
  rw [bigSep_sep', bigSep_sep', bigSep_sep', ← bigSep_univ_prod (fun ck : Dev nD × (Fin 8 ⊕ Fin 8) => iprop(∃ κ : ℕ, cellInv ER (xchg m) κ (xcell ck))),
    ← bigSep_univ_prod (fun ck : Dev nD × (Fin 8 ⊕ Fin 8) => (reached ER (xcell ck) 0 : sProp 𝕄)), give_swap]
  iintro ⟨HI, #HR, Hk, Hg⟩
  ihave HK := (BI.bigSep_exists_pi Finset.univ (fun (ck : Dev nD × (Fin 8 ⊕ Fin 8)) (κ : ℕ) => (cellInv ER (xchg m) κ (xcell ck) : sProp 𝕄))) $$ HI
  icases HK with ⟨%K, #HI⟩
  iapply (bigSep_with (F := F) (R := records m K) (Φ := fun c => iprop(keep m c ∗ give (peer c))) (Ψ := G' m) fun c => deal_intro m K c)
  isplitr
  · unfold records; isplitl; · iexact HI
    iexact HR
  iapply (Entails.of_eq (bigSep_sep' Finset.univ _ _).symm)
  isplitl [Hk]; · iexact Hk
  iexact Hg

/-- The step over every device. -/
theorem deal : (bigSep Finset.univ fun c : Dev nD => iprop(owns0 c ∗ unscopedSems0 c ∗ bufs0 m c ∗ G m c) : sProp 𝕄)
    ⊢ |={Set.univ}=> bigSep Finset.univ (G' m) :=
  ((bigSep_mono fun c _ => deal_local m c).trans (bigSep_fupd _ _)).trans (BI.fupd_mono (regroup m))

/-! ## The launch credit -/

theorem owed_recv (n : ℕ) (hn : n ≤ 8) (d c : Dev nD) (k : Fin 8) :
    owed d n (recvCell c k) () = if d = peer c ∧ 8 ≤ k.val + n then N else 0 := by
  induction n with
  | zero => rw [if_neg (by have := k.isLt; omega)]; rfl
  | succ n ih =>
    unfold owed
    rw [Pi.add_apply, Finsupp.add_apply, tallyAt_apply, ih (by omega)]
    have hk := k.isLt
    have hv : (Fin.ofNat 8 (7 - n)).val = 7 - n := Nat.mod_eq_of_lt (by omega)
    have e : Iff (recvCell c k = recvCell (peer d) (Fin.ofNat 8 (7 - n)) ∧ () = ()) (d = peer c ∧ k.val = 7 - n) := by
      constructor
      · rintro ⟨h, -⟩
        have h1 : c = peer d := congrArg (fun g : GSem nD τ sig => g.1.1) h
        have h2 := recvS_inj (congrArg Prod.snd h)
        exact ⟨by rw [h1, peer_peer], by rw [h2, hv]⟩
      · rintro ⟨rfl, h⟩
        rw [peer_peer, show Fin.ofNat 8 (7 - n) = k from Fin.ext (by rw [hv, h])]
        exact ⟨rfl, rfl⟩
    by_cases hd : d = peer c
    · by_cases h : k.val = 7 - n
      · rw [if_neg (by omega), if_pos (e.mpr ⟨hd, h⟩), if_pos ⟨hd, by omega⟩, Nat.zero_add]
      · rw [if_neg (fun x => h (e.mp x).2), Nat.add_zero]
        by_cases h' : 8 ≤ k.val + n
        · rw [if_pos ⟨hd, h'⟩, if_pos ⟨hd, by omega⟩]
        · rw [if_neg (by omega), if_neg (by omega)]
    · rw [if_neg (fun x => hd x.1), if_neg (fun x => hd (e.mp x).1), if_neg (fun x => hd x.1)]

theorem launch_recv (c : Dev nD) (k : Fin 8) :
    tallyOn (recvCell c k) (launchCredit (Pipeline.owing fun d => owed d 8) 0 (recvCell c k)) = (tallyAt (recvCell c k) () N : CellTallies nD τ sig Unit) := by
  unfold tallyAt; refine congrArg _ (Finsupp.ext fun u => ?_); cases u
  rw [Pipeline.launchCredit_owing, Finsupp.single_eq_same,
    Finset.sum_congr rfl fun d _ => (owed_recv 8 le_rfl d c k).trans (if_congr (and_iff_left (by omega)) rfl rfl),
    Finset.sum_ite_eq' Finset.univ (peer c) fun _ => N, if_pos (Finset.mem_univ _)]

/-- Every receive cell's credit is a chunk. -/
theorem creds (c : Dev nD) :
    (Pipeline.launchCred (fun d => owed d 8) c : sProp 𝕄) ⊢ bigSep Finset.univ fun k : Fin 8 => cred (tallyAt (recvCell c k) () N) := by
  have e : (bigSep Finset.univ fun k : Fin 8 => cred (tallyAt (recvCell c k) () N) : sProp 𝕄)
      = bigSep (Finset.univ.map ⟨fun k : Fin 8 => (SemLoc.dma (recvS k) : SemLoc sig), fun _ _ h => recvS_inj h⟩) fun sm =>
          cred (tallyOn ((c : Thread nD τ), sm) (launchCredit (Pipeline.owing fun d => owed d 8) 0 ((c : Thread nD τ), sm))) := by
    rw [bigSep_map]
    exact bigSep_congr fun k _ => congrArg _ (launch_recv c k).symm
  rw [e]
  unfold Pipeline.launchCred
  exact bigSep_subset (Finset.subset_univ _)

end Cert.AllToAll

end
-- ==== Proof.Run.lean ====
/-
  The run of the whole program, for any float values: the kernel started on every device from what the launch deals, and what every
  final state holds.
-/
module

public import proofs.«01_k».proof.Proof.Deal
public import Idealize.ShloMosaic.Lib.Quiescent

@[expose] public section

set_option maxRecDepth 16384

noncomputable section

namespace Cert.AllToAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)

variable {F : FTy → Type} [FloatOps F]

local notation "𝕄" => MT nD τ sig Unit (Elt F) ℕ UU ℕ

variable (m : (ℓ : Loc nD τ sig) → Buf (Elt F) ℓ) (ρ : Dev nD → PrngReg)

/-! ## The kernel as the launch runs it: no windows, one point -/

/-- Before the kernel's one point, -/
def Φ₀ (c : Dev nD) : sProp 𝕄 :=
  iprop(∃ K, bigSep Finset.univ (fresh m K c) ∗ bigSep Finset.univ (xPts m c) ∗ slots (F := F) c ∗ levAts L lv)
/-- and after it. -/
def Φ₁ (c : Dev nD) : sProp 𝕄 := iprop(bigSep Finset.univ (landed m c) ∗ bigSep Finset.univ (xPts m c) ∗ slots (F := F) c)

def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q w := w.elim0
  owed t := match t with
    | ⟨0, _⟩ => owed c 8
    | ⟨_ + 1, _⟩ => owed c 0

theorem body_obligation (c : Dev nD) : BodyObligationLoose (dats (F := F) m 0 c) (defs₀ (F := F)) 𝒱₀ () Set.univ := fun t => by
  rw [fin_N0 t, Finset.univ_eq_empty, BI.bigSep_empty, BI.bigSep_empty]
  show iprop(Φ₀ m c ∗ Pipeline.owesWithin c (owed c 8) ((dats (F := F) m 0 c).bound () t0_0.castSucc) ∗ BI.emp) ⊢ Runs c (body (F := F)) fun _ =>
    iprop(Φ₁ m c ∗ Pipeline.owesWithin c (owed c 0) ((dats (F := F) m 0 c).bound () t0_0.succ) ∗ BI.emp)
  unfold Φ₀ Φ₁
  iintro ⟨⟨%K, Hf, Hx, Hs, Hl⟩, ⟨%W, -, HW⟩, He⟩
  iapply (sound m K c)
  isplitr [He]
  · isplitl [Hf]; · iexact Hf
    isplitl [Hx]; · iexact Hx
    isplitl [Hs]; · iexact Hs
    isplitl [HW]
    · unfold ow; iexists W; iexact HW
    iexact Hl
  iintro ⟨Hd, Hx, Hs, HO⟩
  isplitl [Hd Hx Hs]
  · isplitl [Hd]; · iexact Hd
    isplitl [Hx]; · iexact Hx
    iexact Hs
  isplitl [HO]
  · unfold ow
    icases HO with ⟨%W', HW⟩
    iexists W'
    isplitr
    · ipureintro; exact fun _ _ => Or.inl trivial
    iexact HW
  iexact He

/-! ## Into the kernel and out of it -/

theorem two (Φ : Fin 2 → sProp 𝕄) : bigSep Finset.univ Φ = iprop(Φ 0 ∗ Φ 1) := BI.bigSep_fin_two Φ

/-- What device `c` brings to the kernel. -/
def brings (c : Dev nD) : sProp 𝕄 :=
  iprop(G' m c ∗ (bigSep Finset.univ fun k : Fin 8 => cred (tallyAt (recvCell c k) () N)) ∗ levAts L lv)
/-- What it takes away: its argument as it was, its result as it should be. -/
def takes (c : Dev nD) : sProp 𝕄 :=
  iprop(((c : Thread nD τ).loc main_arg0 ↦{fullShare} m ((c : Thread nD τ).loc main_arg0)) ∗ ((c : Thread nD τ).loc main_v1 ↦{fullShare} outv m c))

/-- The kernel's scratch buffers at some contents. -/
abbrev scratch (c : Dev nD) : sProp 𝕄 := Pipeline.scopedRest (Ix := Unit) (Name := ℕ) (U := UU) (Lvl := ℕ) (Val := Elt F) cfg0.spec c

theorem fresh_intro (K : Dev nD × Fin 16 → ℕ) (c : Dev nD) :
    iprop((bigSep Finset.univ fun k => iprop(facts m K c k ∗ lin c k)) ∗ (bigSep Finset.univ fun k : Fin 8 => cred (tallyAt (recvCell c k) () N))
        ∗ (bigSep Finset.univ fun k => some_pts c (sChunk k)) ∗ bigSep Finset.univ fun k => some_pts c (lChunk k))
      ⊢ (bigSep Finset.univ (fresh m K c) : sProp 𝕄) := by
  rw [← bigSep_sep', ← bigSep_sep', ← bigSep_sep']
  refine bigSep_mono fun k _ => show iprop((facts m K c k ∗ lin c k) ∗ cred (tallyAt (recvCell c k) () N) ∗ some_pts c (sChunk k) ∗ some_pts c (lChunk k)) ⊢ _ from ?_
  unfold fresh ghostAt facts lin
  iintro ⟨⟨Hf, H1, H2, H3, H4, H5, H6, H7⟩, Hc, Hs, Hl⟩
  isplitl [Hf H1 H2 H3 H4 Hc]
  · isplitl [Hf]; · iexact Hf
    isplitl [H1]; · iexact H1
    isplitl [H2]; · iexact H2
    isplitl [H3]; · iexact H3
    isplitl [H4]; · iexact H4
    iexact Hc
  isplitl [Hs]; · iexact Hs
  isplitl [Hl]; · iexact Hl
  isplitl [H5]; · iexact H5
  isplitl [H6]; · iexact H6
  iexact H7

theorem enter (c : Dev nD) : iprop(brings m c ∗ scratch c) ⊢ (Φ₀ m c : sProp 𝕄) := by
  unfold scratch
  rw [scopedRest0_eq]
  unfold brings G' Φ₀ slots
  iintro ⟨⟨⟨%K, Hd, Hx, Hi⟩, Hc, Hl⟩, Hv, Hs, Hlb⟩
  ihave Hv' := (v_split (F := F) c) $$ Hv
  icases Hv' with ⟨Hv0, Hv1⟩
  ihave Hi' := (Entails.of_eq (two (F := F) fun j : Fin 2 => semVal ((c : Thread nD τ), .dma (inS j)) 0)) $$ Hi
  icases Hi' with ⟨Hi0, Hi1⟩
  iexists K
  isplitl [Hd Hc Hs Hlb]
  · iapply (fresh_intro m K c)
    isplitl [Hd]; · iexact Hd
    isplitl [Hc]; · iexact Hc
    isplitl [Hs]; · iapply (s_split (F := F) c); iexact Hs
    iapply (l_split (F := F) c); iexact Hlb
  isplitl [Hx]; · iexact Hx
  isplitr [Hl]
  · isplitl [Hv0]; · iexact Hv0
    isplitl [Hv1]; · iexact Hv1
    isplitl [Hi0]; · iexact Hi0
    iexact Hi1
  iexact Hl

theorem leave (c : Dev nD) : (Φ₁ m c : sProp 𝕄) ⊢ iprop(takes m c ∗ owns0 c ∗ scratch c) := by
  unfold scratch
  rw [scopedRest0_eq, owns0_eq]
  unfold Φ₁ takes slots landed
  rw [x_pieces, o_pieces, bigSep_sep', bigSep_sep', bigSep_sep', bigSep_sep', bigSep_sep', bigSep_sep']
  iintro ⟨⟨Hs, Hl, Ho, Hp, HzO, HzS, HzR⟩, Hx, Hv0, Hv1, Hi0, Hi1⟩
  isplitl [Hx Ho Hp]
  · isplitl [Hx]; · iexact Hx
    isplitl [Ho]; · iexact Ho
    iexact Hp
  isplitl [Hi0 Hi1 HzO HzS HzR]
  · isplitl [Hi0 Hi1]
    · iapply (Entails.of_eq (two (F := F) fun j : Fin 2 => semVal ((c : Thread nD τ), .dma (inS j)) 0).symm)
      isplitl [Hi0]; · iexact Hi0
      iexact Hi1
    isplitl [HzO]; · iexact HzO
    isplitl [HzS]; · iexact HzS
    iexact HzR
  isplitl [Hv0 Hv1]
  · iapply (v_join m c)
    isplitl [Hv0]; · iexact Hv0
    iexact Hv1
  isplitl [Hs]
  · iapply (s_join m c); iexact Hs
  iapply (l_join m c); iexact Hl

/-! ## The launch -/

abbrev admis : (p : Fin 1) → (pcfgs (F := F) p).Adm := fun p => (cfgs p).toPCfg_adm

theorem cells_zero (c : Dev nD) : (scopedSems0 (c : Thread nD τ) : sProp 𝕄)
    = iprop((Pipeline.cellsSems0 cfgs 0 c ∗ owns0 c) ∗ Pipeline.idleSems0 cfgs cellOf_inj 0 ownSemFacts c) :=
  Pipeline.scopedSems0_split cfgs cellOf_inj 0 winFacts0.to₀ ownSemFacts c
theorem bufs_scoped (c : Dev nD) : (scopedBufs (c : Thread nD τ) : sProp 𝕄) = iprop(Dat.staging cfg0 c ∗ scratch c) :=
  Pipeline.scopedBufs_split cfgs 0 winFacts0.to₀.stage_scoped winFacts0.to₀.stage_inj stage_whole0 c

/-- What device `c` starts @main from. -/
def before (c : Dev nD) : sProp 𝕄 :=
  iprop(scopedBufs (c : Thread nD τ) ∗ Pipeline.cellsSems0 cfgs 0 c ∗ Pipeline.idleSems0 cfgs cellOf_inj 0 ownSemFacts c
    ∗ owes (c : Thread nD τ) (owed c 8) ∅ ∗ levAts L lv ∗ Pipeline.launchCred (fun d => owed d 8) c
    ∗ Pipeline.cellsGhost cfgs EP 0 c ∗ Pipeline.toksInit cfgs EP 0 c ∗ G' m c)
/-- What it ends with. -/
def after (c : Dev nD) : sProp 𝕄 := iprop(takes m c ∗ scopedSems0 (c : Thread nD τ))

theorem keep_right (A B : sProp 𝕄) : iprop(A ∗ B) ⊢ iprop(B ∗ BI.emp) := by
  iintro ⟨-, H⟩
  isplitl [H]; · iexact H
  iempintro

theorem levels_all : (bigSep Finset.univ fun c : Dev nD => (levels0 c : sProp 𝕄)) ⊢ (|==> levAts L lv : sProp 𝕄) := by
  refine (bigSep_mono fun c _ => (lev_assign_cells (c : Thread nD τ) L lv : (levels0 c : sProp 𝕄) ⊢ _)).trans <| (bigSep_bupd _ _).trans <| BI.bupd_mono ?_
  have rest : (bigSep Finset.univ fun d : Dev nD => bigSep (Finset.univ.erase Proc.tc) fun p => (coreLevAts ((d, p) : Thread nD τ) L lv : sProp 𝕄)) = BI.emp := by
    refine (bigSep_congr fun d _ => (bigSep_congr fun p hp => ?_).trans (BI.bigSep_emp_const _)).trans (BI.bigSep_emp_const _)
    unfold coreLevAts
    refine (bigSep_congr fun sm _ => ?_).trans (BI.bigSep_emp_const _)
    rw [L_of_ne (((d, p) : Thread nD τ), sm) (Finset.ne_of_mem_erase hp), BI.bigSep_empty]
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv), rest, bigSep_sep']
  exact keep_right _ _

/-- What one core holds at the launch. -/
theorem core_init (c : Dev nD) :
    coreInit (Ix := Unit) (Name := ℕ) (U := UU) (Lvl := ℕ) (Pipeline.owing fun d => owed d 8) 0 (⟨m, fun _ => 0, ρ⟩ : MemSt nD τ sig (Elt F)) (c : Thread nD τ)
      ⊢ iprop((scopedBufs (c : Thread nD τ) ∗ Pipeline.cellsSems0 cfgs 0 c ∗ Pipeline.idleSems0 cfgs cellOf_inj 0 ownSemFacts c
            ∗ owes (c : Thread nD τ) (owed c 8) ∅ ∗ Pipeline.launchCred (fun d => owed d 8) c)
          ∗ (owns0 c ∗ unscopedSems0 c ∗ bufs0 m c) ∗ levels0 c) := by
  refine (Pipeline.coreInit_boundary_owing (fun d => owed d 8) m ρ c).trans ?_
  unfold boundary
  rw [cells_zero]
  iintro ⟨⟨Hsc, ⟨⟨Hcells, Hos⟩, Hidle⟩, -⟩, Hub, Hus, HL, Hlv, -, Hcr⟩
  isplitl [Hsc Hcells Hidle HL Hcr]
  · isplitl [Hsc]; · iexact Hsc
    isplitl [Hcells]; · iexact Hcells
    isplitl [Hidle]; · iexact Hidle
    isplitl [HL]; · iexact HL
    iexact Hcr
  isplitr [Hlv]
  · isplitl [Hos]; · iexact Hos
    isplitl [Hus]; · iexact Hus
    iexact Hub
  iexact Hlv

theorem with_ghost (c : Dev nD) : iprop((owns0 c ∗ unscopedSems0 c ∗ bufs0 m c) ∗ G m c) ⊢ (iprop(owns0 c ∗ unscopedSems0 c ∗ bufs0 m c ∗ G m c) : sProp 𝕄) := by
  iintro ⟨⟨H1, H2, H3⟩, H4⟩
  isplitl [H1]; · iexact H1
  isplitl [H2]; · iexact H2
  isplitl [H3] <;> iassumption

theorem before_intro (c : Dev nD) :
    iprop((scopedBufs (c : Thread nD τ) ∗ Pipeline.cellsSems0 cfgs 0 c ∗ Pipeline.idleSems0 cfgs cellOf_inj 0 ownSemFacts c
            ∗ owes (c : Thread nD τ) (owed c 8) ∅ ∗ Pipeline.launchCred (fun d => owed d 8) c) ∗ levAts L lv
          ∗ Pipeline.cellsGhost cfgs EP 0 c ∗ Pipeline.toksInit cfgs EP 0 c ∗ G' m c) ⊢ (before m c : sProp 𝕄) := by
  unfold before
  iintro ⟨⟨H1, H2, H3, H4, H5⟩, Hl, Hg, Ht, HG⟩
  isplitl [H1]; · iexact H1
  isplitl [H2]; · iexact H2
  isplitl [H3]; · iexact H3
  isplitl [H4]; · iexact H4
  isplitl [Hl]; · iexact Hl
  isplitl [H5]; · iexact H5
  isplitl [Hg]; · iexact Hg
  isplitl [Ht]; · iexact Ht
  iexact HG
/-- The launch: what every core holds and the ghost element, dealt. -/
theorem launch :
    iprop(bigSep Finset.univ (fun d : Dev nD =>
          coreInit (Ix := Unit) (Name := ℕ) (U := UU) (Lvl := ℕ) (Pipeline.owing fun d => owed d 8) 0 (⟨m, fun _ => 0, ρ⟩ : MemSt nD τ sig (Elt F)) (d : Thread nD τ)) ∗ ownU u₀)
      ⊢ (|={Set.univ}=> ∃ _ : Unit, bigSep Finset.univ (before m) ∗ iprop(emp) : sProp 𝕄) := by
  have cores : (bigSep Finset.univ (fun d : Dev nD =>
        coreInit (Ix := Unit) (Name := ℕ) (U := UU) (Lvl := ℕ) (Pipeline.owing fun d => owed d 8) 0 (⟨m, fun _ => 0, ρ⟩ : MemSt nD τ sig (Elt F)) (d : Thread nD τ)))
      ⊢ (iprop((bigSep Finset.univ fun c : Dev nD => iprop(scopedBufs (c : Thread nD τ) ∗ Pipeline.cellsSems0 cfgs 0 c ∗ Pipeline.idleSems0 cfgs cellOf_inj 0 ownSemFacts c
            ∗ owes (c : Thread nD τ) (owed c 8) ∅ ∗ Pipeline.launchCred (fun d => owed d 8) c))
          ∗ (bigSep Finset.univ fun c : Dev nD => iprop(owns0 c ∗ unscopedSems0 c ∗ bufs0 m c)) ∗ bigSep Finset.univ fun c : Dev nD => levels0 c) : sProp 𝕄) := by
    rw [← bigSep_sep', ← bigSep_sep']
    exact bigSep_mono fun c _ => core_init m ρ c
  have pick (Φ : Fin 1 → Dev nD → sProp 𝕄) : (bigSep Finset.univ fun c : Dev nD => bigSep Finset.univ fun p => Φ p c) ⊢ bigSep Finset.univ fun c : Dev nD => Φ 0 c :=
    bigSep_mono fun c _ => BI.bigSep_elim (Finset.mem_univ 0)
  have zip : iprop((bigSep Finset.univ fun c : Dev nD => iprop(owns0 c ∗ unscopedSems0 c ∗ bufs0 m c)) ∗ bigSep Finset.univ (G m))
      ⊢ (bigSep Finset.univ fun c : Dev nD => iprop(owns0 c ∗ unscopedSems0 c ∗ bufs0 m c ∗ G m c) : sProp 𝕄) := by
    rw [← bigSep_sep']
    exact bigSep_mono (fun c _ => with_ghost m c)
  have all : iprop((bigSep Finset.univ fun c : Dev nD => iprop(scopedBufs (c : Thread nD τ) ∗ Pipeline.cellsSems0 cfgs 0 c ∗ Pipeline.idleSems0 cfgs cellOf_inj 0 ownSemFacts c
            ∗ owes (c : Thread nD τ) (owed c 8) ∅ ∗ Pipeline.launchCred (fun d => owed d 8) c)) ∗ (bigSep Finset.univ fun _ : Dev nD => levAts L lv)
          ∗ (bigSep Finset.univ fun c : Dev nD => Pipeline.cellsGhost cfgs EP 0 c) ∗ (bigSep Finset.univ fun c : Dev nD => Pipeline.toksInit cfgs EP 0 c) ∗ bigSep Finset.univ (G' m))
      ⊢ (bigSep Finset.univ (before m) : sProp 𝕄) := by
    rw [← bigSep_sep', ← bigSep_sep', ← bigSep_sep', ← bigSep_sep']
    exact bigSep_mono fun c _ => before_intro m c
  iintro ⟨Hcores, Hu⟩
  ihave Hc := cores $$ Hcores
  icases Hc with ⟨Hb, Hd, Hlv⟩
  imod (levels_all (F := F)) $$ Hlv with Hla
  ihave Hu' := (u₀_split (F := F)) $$ Hu
  icases Hu' with ⟨HP, HX⟩
  imod (fund_xchg m) $$ HX with HG
  imod (Pipeline.fund_ghost cfgs EP cellOf_inj) $$ HP with ⟨Hg, Ht⟩
  ihave Hz := zip $$ [Hd HG]
  · isplitl [Hd] <;> iassumption
  imod (deal m) $$ Hz with HG'
  imodintro
  iexists ()
  isplitr []
  · iapply all
    isplitl [Hb]; · iexact Hb
    isplitl [Hla]; · iapply (BI.bigSep_intro_persistent (S := Finset.univ) fun (c : Dev nD) _ => (BI.Entails.refl (levAts L lv : sProp 𝕄))); iexact Hla
    isplitl [Hg]; · iapply (pick fun p c => Pipeline.cellsGhost cfgs EP p c); iexact Hg
    isplitl [Ht]; · iapply (pick fun p c => Pipeline.toksInit cfgs EP p c); iexact Ht
    iexact HG'
  · iempintro

/-! ## One device's run of @main -/

theorem waits_none (c : Dev nD) : (iprop(emp) : sProp 𝕄) ⊢ Pipeline.cellsWaits cfgs (dats m) () 0 c :=
  Pipeline.cellsWaits_intro cfgs (dats m) () 0 c fun w => w.elim0

theorem exit_kernel (c : Dev nD) :
    iprop(Φ₁ m c ∗ Pipeline.cellsSems0 cfgs 0 c ∗ Dat.staging cfg0 c ∗ Pipeline.idleSems0 cfgs cellOf_inj 0 ownSemFacts c)
      ⊢ (iprop(takes m c ∗ scopedSems0 (c : Thread nD τ) ∗ scopedBufs (c : Thread nD τ)) : sProp 𝕄) := by
  rw [cells_zero, bufs_scoped]
  iintro ⟨HΦ, Hcells, Hst, Hidle⟩
  ihave H := (leave m c) $$ HΦ
  icases H with ⟨HY, Hos, Hrest⟩
  isplitl [HY]; · iexact HY
  isplitl [Hcells Hos Hidle]
  · isplitl [Hcells Hos]; · isplitl [Hcells] <;> iassumption
    iexact Hidle
  isplitl [Hst] <;> iassumption

theorem device_run (c : Dev nD) :
    (before m c : sProp 𝕄) ⊢ wp frame (wpE (Pipeline.defs (pcfgs (F := F)) defs₀) (Variants.lift 𝒱₀) (c : Thread nD τ) none) Set.univ (main (F := F) c)
      (fun _ => post (liftTc (after m) BI.emp) (c : Thread nD τ)) := by
  rw [show main (F := F) c = .op (.customCall (Pipeline.entry 0) ()) fun _ => .ret ⟨⟩ from rfl]
  unfold before
  iintro ⟨Hsc, Hcells, Hidle, HL, #Hla, Hcr, Hg, Ht, HG⟩
  ihave Hc := (creds (F := F) c) $$ Hcr
  iapply (fupd_wp frame (wpE (Pipeline.defs (pcfgs (F := F)) defs₀) (Variants.lift 𝒱₀) (c : Thread nD τ) none) Set.univ _ _)
  imod (Pipeline.cellsInit_alloc cfgs (dats m) EP cellOf_inj 0 c) $$ [Hcells Hg] with ⟨%κ, -, Hinit⟩
  · isplitl [Hcells] <;> iassumption
  imodintro
  iapply (Pipeline.wp_customCall_entry_frame (pcfgs (F := F)) admis (dats m) () EP κ cellOf_inj 0 defs₀ 𝒱₀ (fun k => k.elim0) c Set.univ (fun _ _ => Set.mem_univ _)
      (body_obligation m c) (fun w => w.elim0) none (fun u h => nomatch h) (X := brings m c) (Y := takes m c) (R := scratch c)
      (I := Pipeline.idleSems0 cfgs cellOf_inj 0 ownSemFacts c)
      (Entails.of_eq (bufs_scoped c)) (show _ ⊢ Φ₀ m c from by
        iintro ⟨HX, -, HR⟩
        iapply (enter m c)
        isplitl [HX] <;> iassumption) (exit_kernel m c)
      (k := fun _ => .ret ⟨⟩) (Q := fun _ => post (liftTc (after m) BI.emp) (c : Thread nD τ))) $$ [HL Hinit Ht Hidle Hsc Hc HG]
  · isplitl [HL Hinit Ht]
    · iapply (show iprop((dats m 0 c).arrays ((dats m 0 c).arrAt · 0) ∗ (dats m 0 c).owesAt () 0 ∗ Pipeline.cellsWaits cfgs (dats m) () 0 c
            ∗ Pipeline.cellsInit cfgs (dats m) EP κ 0 c ∗ Pipeline.toksInit cfgs EP 0 c) ⊢ Pipeline.EntryPre (Pipeline.pin (pcfgs (F := F)) admis) (dats m) () EP κ 0 c
          from Entails.of_eq rfl)
      isplitr
      · iapply (show (iprop(emp) : sProp 𝕄) ⊢ (dats m 0 c).arrays ((dats m 0 c).arrAt · 0) from Entails.of_eq (by
          unfold Dat.arrays; rw [Finset.univ_eq_empty, BI.bigSep_empty]; rfl))
        iempintro
      isplitl [HL]
      · iexists ∅; isplitr; · ipureintro; rw [Finset.coe_empty]; exact Set.empty_subset _
        iexact HL
      isplitr; · iapply (waits_none m c); iempintro
      isplitl [Hinit] <;> iassumption
    isplitr
    · iapply (show (iprop(emp) : sProp 𝕄) ⊢ Pipeline.prefHeld (pcfgs (F := F) 0).pre c (fun k => k.elim0) (admis 0).1 from Entails.of_eq (by
        unfold Pipeline.prefHeld; rw [show (Finset.univ : Finset (Fin (pcfgs (F := F) 0).pre.K)) = ∅ from rfl, BI.bigSep_empty]; rfl))
      iempintro
    isplitl [HG Hc]
    · unfold brings
      isplitl [HG]; · iexact HG
      isplitl [Hc]; · iexact Hc
      iexact Hla
    isplitl [Hidle]; · iexact Hidle
    iexact Hsc
  iintro ⟨HE, HY, Hss, -⟩
  ihave HE' := (show Pipeline.EntryPost (Pipeline.pin (pcfgs (F := F)) admis) (dats m) () 0 c
      ⊢ iprop((dats m 0 c).arrays ((dats m 0 c).arrAt · cfg0.N) ∗ (dats m 0 c).owesAt () (Fin.last cfg0.N)) from Entails.of_eq rfl) $$ HE
  icases HE' with ⟨-, %W, -, HW⟩
  rw [wp_ret]; imodintro
  unfold post; simp only [liftTc_tc]
  unfold after
  isplitr [HW]
  · isplitl [HY]; · iexact HY
    iexact Hss
  · iexists W; iexact HW

/-! ## The run -/

/-- Held whole, a buffer's contents are what the memory has there. -/
theorem read_one (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  have h := pointsTo_read_all (Ix := Unit) (Name := ℕ) (U := UU) (Lvl := ℕ) ({()} : Finset Unit) (fun _ => ℓ) (fun _ => f) s'
  rw [bigSep_singleton] at h
  refine h.trans ?_
  iintro ⟨%e, H⟩
  isplitr
  · ipureintro; exact e () (Finset.mem_singleton_self _)
  iexact H

theorem device_reads (c : Dev nD) (s' : Phys nD τ sig (Elt F)) : iprop((after m c : sProp 𝕄) ∗ SI s') ⊢ |={Set.univ}=>
    iprop(⌜(s'.mem.mem ((c : Thread nD τ).loc main_arg0) = m ((c : Thread nD τ).loc main_arg0) ∧ s'.mem.mem ((c : Thread nD τ).loc main_v1) = outv m c)
      ∧ ∀ sm : SemLoc sig, sm.isScoped .tc = true → s'.mem.sem ((c : Thread nD τ), sm) = 0⌝ ∗ SI s') := by
  unfold after takes
  iintro ⟨⟨⟨Hx, Ho⟩, Hss⟩, HSI⟩
  ihave %hz := (tcScoped_read_pers c s') $$ [Hss HSI]
  · isplitl [Hss] <;> iassumption
  ihave H1 := (read_one _ _ s') $$ [Hx HSI]
  · isplitl [Hx] <;> iassumption
  icases H1 with ⟨%hx, HSI⟩
  ihave H2 := (read_one _ _ s') $$ [Ho HSI]
  · isplitl [Ho] <;> iassumption
  icases H2 with ⟨%ho, HSI⟩
  imodintro
  isplitr
  · ipureintro; exact ⟨⟨hx, ho⟩, hz⟩
  · iexact HSI

/-- For any float values, from any memory with zero counters: every weakly fair execution of @main on the eight devices terminates, and
    every final state has each device's argument as it was, its result as `outv`, and every semaphore counter at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0) ∧ r.2.mem ((c : Thread nD τ).loc main_v1) = outv m c)
      ∧ r.2.sem = fun _ => 0) := by
  refine (θ_run (Pipeline.defs (pcfgs (F := F)) defs₀) _ _).mono (Q := fun r => (∀ c : Dev nD,
        (r.2.mem ((c : Thread nD τ).loc main_arg0) = m ((c : Thread nD τ).loc main_arg0) ∧ r.2.mem ((c : Thread nD τ).loc main_v1) = outv m c)
          ∧ ∀ sm : SemLoc sig, sm.isScoped .tc = true → r.2.sem ((c : Thread nD τ), sm) = 0)
      ∧ ∀ g' : GSem nD τ sig, g'.1.2 ≠ .tc → r.2.sem g' = 0)
    (fun r hr => ⟨fun c => (hr.1 c).1, sem_eq_zero_of_scoped (by decide) (sems_of_reads (fun c => (hr.1 c).2) hr.2)⟩)
    (adequate_tpu (Pipeline.defs (pcfgs (F := F)) defs₀) _ _ _
      (reflect_intro_fupd_tc_sems (X := Unit) (Variants.lift 𝒱₀) (Pipeline.owing fun d => owed d 8) 0 (noBookings fun _ => le_rfl) (Pipeline.owing_of_ne _) u₀
        (fun _ => before m) (fun _ => after m) (fun _ => iprop(emp)) Set.univ (launch m ρ) (fun _ c => device_run m c) fun _ => ?_))
  iintro ⟨H, -, Hsc⟩ %s' HSI
  ihave %hsc := (scSems_read_zero m ρ s') $$ [Hsc HSI]
  · isplitl [Hsc] <;> iassumption
  imod (posts_fupd Finset.univ (device_reads m) s') $$ [H HSI] with %h
  · isplitl [H] <;> iassumption
  imodintro
  ipureintro
  exact ⟨fun c => h c (Finset.mem_univ c), hsc⟩

end Cert.AllToAll

end
-- ==== Proof.Result.lean ====
/-
  The result every device ends with is its columns of the whole argument, rounded.
-/
module

public import proofs.«01_k».proof.Proof.Run

@[expose] public section

set_option maxRecDepth 16384

noncomputable section

namespace Cert.AllToAll

open Cert.KernelIdeal Cert.KernelIdeal.Gen
open Idealize.ShloMosaic Idealize.ShloMosaic.TcCoe

variable {F : FTy → Type} [FloatOps F]

/-- The whole argument, rounded entry by entry. -/
def rounded (v : (⟨2, ![8192, 2048]⟩ : Shape).Idx → Elt F .f32) : (⟨2, ![8192, 2048]⟩ : Shape).Idx → Elt F .bf16 := fun i =>
  FloatOps.truncf (F := F) (φ := .f32) .bf16 (by decide) (v i)

/-- Along the axis the mesh's last coordinate cuts, device `c` holds block `c % 2`. -/
theorem coord_last (c : Dev nD) : Layout.meshLin [2, 2, 2] c.val [2] = c.val % 2 := by
  show c.val / 1 % 2 * 1 + 0 = c.val % 2
  rw [Nat.div_one, Nat.mul_one, Nat.add_zero]

variable (m : (ℓ : Loc nD τ sig) → Buf (Elt F) ℓ)

/-- If every device's argument is its rows of `v`, every device's result is its columns of `v` rounded: row `i` of the result comes from the
    device whose rows hold it. -/
theorem outv_eq_columns (v : (⟨2, ![8192, 2048]⟩ : Shape).Idx → Elt F .f32)
    (h : ∀ c : Dev nD, m ((c : Thread nD τ).loc main_arg0) = Layout.blockN ⟨2, ![4096, 2048]⟩ ⟨2, ![8192, 2048]⟩ (Layout.meshBlock [2, 2, 2] ![[2], []] c) v)
    (c : Dev nD) :
    outv m c = Layout.blockN ⟨2, ![8192, 1024]⟩ ⟨2, ![8192, 2048]⟩ (Layout.meshBlock [2, 2, 2] ![[], [2]] c) (rounded v) := by
  funext i
  unfold outv
  rw [h, Layout.blockN_apply, Layout.blockN_apply]
  unfold rounded
  refine congrArg _ (congrArg v (Shape.idx_ext₂ ?_ ?_))
  · have hi : (i 0).val < 8192 := (i 0).isLt
    have hc := Nat.mod_lt c.val (show 2 > 0 by decide)
    show Layout.meshLin [2, 2, 2] (if (i 0).val / 4096 = c.val % 2 then c else peer c : Dev nD).val [2] * 4096 + (i 0).val % 4096 = 0 * 8192 + (i 0).val
    rw [coord_last]
    split
    · omega
    · rw [peer_mod]; omega
  · show 0 * 2048 + (c.val % 2 * 1024 + (i 1).val) = Layout.meshLin [2, 2, 2] c.val [2] * 1024 + (i 1).val
    rw [coord_last]; omega

end Cert.AllToAll

end
-- ==== Proof.lean ====
/-
  The claims: the frames of the kernel and of the reference, what the idealized kernel keeps of the kernel (no operation was rewritten), and
  the kernel's equality with the reference, over the extended reals and bit for bit.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Result
public import Idealize.ShloMosaic.Adequacy
public import Idealize.ShloMosaic.Init

@[expose] public section

noncomputable section

namespace Cert.Proof

open Idealize.ShloMosaic Idealize.SL.Sem

/-- The kernel's frame: the two programs have one text, so its run is the idealized one's at the machine's floats. -/
theorem frame_kernel : Cert.quiescent_Kernel := fun m ρ _ =>
  (θ_run Cert.KernelIdeal.defs _ _).mono (fun _ h => ⟨fun c => (h.1 c).1, h.2⟩) (AllToAll.run_main (F := Bits) m ρ)

theorem frame_ideal : Cert.quiescent_KernelIdeal := fun m ρ _ =>
  (θ_run Cert.KernelIdeal.defs _ _).mono (fun _ h => ⟨fun c => (h.1 c).1, h.2⟩) (AllToAll.run_main (F := Ideal) m ρ)

/-- The reference has no semaphores at all. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩) (Cert.ReferenceIdeal.Value.run (F := Ideal) m ρ)

theorem frame_reference_bits : Cert.quiescent_Reference := fun m ρ _ =>
  (θ_run Cert.Reference.defs _ _).mono (fun r h => ⟨fun c => (h c).2, Idealize.ShloMosaic.sem_eq_zero_of_no_sems (by decide) r.2⟩) (Cert.Reference.Value.run (F := Bits) m ρ)

/-- Every device's result is its columns of the reference's. -/
theorem value : Cert.algebraic_KernelIdeal_ReferenceIdeal := fun m ρ m' ρ' _ hin =>
  ⟨AllToAll.rounded (F := Ideal) (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).2.trans (AllToAll.outv_eq_columns (F := Ideal) m _ hin c), (h.1 c).1⟩) (AllToAll.run_main (F := Ideal) m ρ),
    (θ_run Cert.ReferenceIdeal.defs _ _).mono (fun _ h => h 0) (Cert.ReferenceIdeal.Value.run (F := Ideal) m' ρ')⟩

/-- The same bit for bit: both round each entry once, in the same way. -/
theorem value_bits : Cert.bitexact_Kernel_Reference := fun m ρ m' ρ' _ hin =>
  ⟨AllToAll.rounded (F := Bits) (m' (((0 : Dev Cert.Reference.nD).tc : Thread Cert.Reference.nD Cert.Reference.τ).loc Cert.Reference.main_arg0)),
    (θ_run Cert.KernelIdeal.defs _ _).mono
      (fun _ h c => ⟨(h.1 c).2.trans (AllToAll.outv_eq_columns (F := Bits) m _ hin c), (h.1 c).1⟩) (AllToAll.run_main (F := Bits) m ρ),
    (θ_run Cert.Reference.defs _ _).mono (fun _ h => h 0) (Cert.Reference.Value.run (F := Bits) m' ρ')⟩

theorem claim : Cert.Claim := ⟨Cert.Kernel.Gen.facts, Cert.KernelIdeal.Gen.facts, Cert.ReferenceIdeal.Gen.facts, Cert.Reference.Gen.facts,
  frame_kernel, frame_ideal, frame_reference, frame_reference_bits, trivial, value, value_bits⟩

end Cert.Proof

end
